-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x1024 : Shape := ⟨3, ![1, 8192, 1024]⟩
abbrev S8192x1024 : Shape := ⟨2, ![8192, 1024]⟩
abbrev S960x1024 : Shape := ⟨2, ![960, 1024]⟩
abbrev S512x1024 : Shape := ⟨2, ![512, 1024]⟩
abbrev S1x16 : Shape := ⟨2, ![1, 16]⟩
abbrev S16x1024 : Shape := ⟨2, ![16, 1024]⟩
abbrev S_ : Shape := ⟨0, ![]⟩
abbrev S8 : Shape := ⟨1, ![8]⟩
abbrev S16 : Shape := ⟨1, ![16]⟩
abbrev S16x128 : Shape := ⟨2, ![16, 128]⟩
abbrev S8192x128 : Shape := ⟨2, ![8192, 128]⟩
abbrev S1 : Shape := ⟨1, ![1]⟩

abbrev nBuf : Table → Nat
  | .hbm => 9
  | .local .tc .vmem => 6
  | .local .scVector .vmem => 3
  | _ => 0

abbrev bufTy : (tb : Table) → Fin (nBuf tb) → BufTy
  | .hbm, ⟨0, _⟩ => ⟨S1x8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S_, .i32⟩
  | .hbm, ⟨6, _⟩ => ⟨S_, .i32⟩
  | .hbm, ⟨7, _⟩ => ⟨S8192x1024, .f32⟩
  | .hbm, ⟨8, _⟩ => ⟨S1x8192x1024, .f32⟩
  | .local .tc .vmem, ⟨0, _⟩ => ⟨S960x1024, .f32⟩
  | .local .tc .vmem, ⟨1, _⟩ => ⟨S960x1024, .f32⟩
  | .local .tc .vmem, ⟨2, _⟩ => ⟨S960x1024, .f32⟩
  | .local .tc .vmem, ⟨3, _⟩ => ⟨S960x1024, .f32⟩
  | .local .tc .vmem, ⟨4, _⟩ => ⟨S960x1024, .f32⟩
  | .local .tc .vmem, ⟨5, _⟩ => ⟨S960x1024, .f32⟩
  | .local .scVector .vmem, ⟨0, _⟩ => ⟨S1x16, .i32⟩
  | .local .scVector .vmem, ⟨1, _⟩ => ⟨S16x1024, .f32⟩
  | .local .scVector .vmem, ⟨2, _⟩ => ⟨S16x1024, .f32⟩
  | _, _ => ⟨S1x8192x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 2, rfl⟩
abbrev main_arg1_scv : Ref sig .scVector := ⟨.hbm, 1, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S960x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S960x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S960x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let c7680_i32 : BitVec 32 := 7680#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := Scalar.addi c7680_i32 v2
  let c0_i32_0 : BitVec 32 := 0#32
  ![v3.toNat, 0]
@[reducible] def k1_t1_loop : Scf.Loop 32 :=
  let c0_i32_103 : BitVec 32 := 0#32
  let c16_i32_104 : BitVec 32 := 16#32
  let v111 : BitVec 32 := Scalar.addi c0_i32_103 c16_i32_104
  let c1_i32_105 : BitVec 32 := 1#32
  ⟨c0_i32_103, v111, c1_i32_105⟩
@[reducible] def k1_t2_loop : Scf.Loop 32 :=
  let c0_i32_109 : BitVec 32 := 0#32
  let c64_i32 : BitVec 32 := 64#32
  let v114 : BitVec 32 := Scalar.addi c0_i32_109 c64_i32
  let c1_i32_110 : BitVec 32 := 1#32
  ⟨c0_i32_109, v114, c1_i32_110⟩
def k1_off2 (k1_t1 : Fin k1_t1_loop.trips) (k1_t2 : Fin k1_t2_loop.trips) : Fin 2 → Nat :=
  let c0_i32_108 : BitVec 32 := 0#32
  let c0_i32_103 : BitVec 32 := 0#32
  let c1_i32_105 : BitVec 32 := 1#32
  let arg10 : BitVec 32 := Scf.iv c0_i32_103 c1_i32_105 k1_t1
  let c1_i32_107 : BitVec 32 := 1#32
  let v112 : BitVec 32 := Scalar.muli arg10 c1_i32_107
  let v113 : BitVec 32 := Scalar.addi c0_i32_108 v112
  let v117 : Index := Scalar.indexCast v113
  let c0_i32_113 : BitVec 32 := 0#32
  let c0_i32_109 : BitVec 32 := 0#32
  let c1_i32_110 : BitVec 32 := 1#32
  let arg11 : BitVec 32 := Scf.iv c0_i32_109 c1_i32_110 k1_t2
  let c16_i32_112 : BitVec 32 := 16#32
  let v115 : BitVec 32 := Scalar.muli arg11 c16_i32_112
  let v116 : BitVec 32 := Scalar.addi c0_i32_113 v115
  let v118 : Index := Scalar.indexCast v116
  ![v117.toNat, v118.toNat]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_107_r0 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x8192x1024 : Shape := ⟨3, ![1, 8192, 1024]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x1024, .f32⟩
  | .hbm, ⟨23, _⟩ => ⟨S1x8192x1024, .i1⟩
  | .hbm, ⟨24, _⟩ => ⟨S_, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Common.lean ====
/-
  The launch set-up of `KernelIdeal`, at any float values `F`: the program as the SparseCore launch theorem sees it, the
  resource algebra, the arrays by name, what the SparseCore call leaves in its result (`scOut`), and what the call's
  handshakes carry. Every tile of the call reads the whole of the two operand arrays, at a share of its own (one of the
  32 read tokens the full share is cut into), and writes one block of 16 rows of the result, its own outright.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.PosEnc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program: the kernels' own and one per TensorCore call. -/
abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The SparseCore call runs on 16 tiles of each SparseCore, -/
theorem nSub_zero [FloatOps F] : (K (F := F)).nSub 0 = 16 := rfl
/-- and on 2 SparseCores. -/
theorem nCore_zero [FloatOps F] : (K (F := F)).nCore 0 = 2 := rfl

/-- The launch's four semaphores are distinct where they must be, and no task's buffer is shared. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging rounds of the TensorCore call, the transfers' counters -/

/-- The ghost state: the launch handshakes' rounds, the staging rounds, and the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays, and the blocks of rows of the SparseCore call's result -/

variable (m : (ℓ : Loc nD τ sig) → Buf (Elt F) ℓ) (ρ : Dev nD → PrngReg)

/-- The two arguments, the first argument as a matrix, and the SparseCore call's result. -/
abbrev aLoc (d : Dev nD) : Loc nD τ sig := (SparseCore.T d).loc main_arg0
abbrev eLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v2

/-- The result's 512 rows in 32 blocks of 16, block `w` the rows from `16 * w`. -/
theorem odiv : 32 ∣ S512x1024.size 0 := ⟨16, rfl⟩
/-- Block `w` of the result's rows, and its indices as a set. -/
abbrev orow (w : Fin 32) : Rect S512x1024 := Rect.part (s := S512x1024) (a₀ := 0) odiv w
abbrev oRowSet (w : Fin 32) : Finset S512x1024.Idx := (orow w).set

/-- The block the tile at core `c`, subcore `s` works on: `2 * s + c`. -/
abbrev widOf (c : Fin 2) (s : Fin 16) : Fin 32 := ⟨s.val * 2 + c.val, by omega⟩

/-- The share of the operand arrays the tile with block `w` reads them at. -/
abbrev tq (w : Fin 32) : PosShare TreeShare := Transfers.shareTok fullShare 32 w

/-- Row `7680 + i` of an array of 8192 rows, at column `j`: where row `i` of the SparseCore call's result comes from. -/
def rowAt (i : S512x1024.Idx) : S8192x1024.Idx :=
  fun | 0 => ⟨7680 + (i 0).val, by have : (i 0).val < 512 := (i 0).isLt; show _ < 8192; omega⟩ | 1 => ⟨(i 1).val, (i 1).isLt⟩

variable [FloatOps F]

/-- What the SparseCore call computes: row `i` of the result is the sum of row `7680 + i` of `x` and of `e`. -/
def scOut (x e : S8192x1024.Idx → Elt F .f32) : S512x1024.Idx → Elt F .f32 := fun i => FloatOps.addf (φ := .f32) (x (rowAt i)) (e (rowAt i))

/-- The first operand as the SparseCore call finds it: the first argument's elements in the shape of a matrix. -/
def xBuf (d : Dev nD) : Buf (Elt F) (xLoc d) := shapeCast S8192x1024 (m (aLoc d)) shapeCasts_S1x8192x1024_S8192x1024

/-! ## What the handshakes carry -/

/-- A tile's share of the two operands, and a block of the result held outright. -/
abbrev xShPts (d : Dev nD) (w : Fin 32) : sProp 𝕄 := xLoc d ↦{tq w} xBuf m d
abbrev eShPts (d : Dev nD) (w : Fin 32) : sProp 𝕄 := eLoc d ↦{tq w} m (eLoc d)
abbrev oRowPts (d : Dev nD) (w : Fin 32) (f : Buf (Elt F) (oLoc d)) : sProp 𝕄 := oLoc d ↦[oRowSet w]{fullShare} f
/-- What a tile is given: its shares of the operands, its block of the result as it was; -/
abbrev goPts (d : Dev nD) (w : Fin 32) : sProp 𝕄 := iprop(xShPts m d w ∗ eShPts m d w ∗ oRowPts d w (m (oLoc d)))
/-- and what it gives back: the same shares, and its block at the sums. -/
abbrev tdPts (d : Dev nD) (w : Fin 32) : sProp 𝕄 := iprop(xShPts m d w ∗ eShPts m d w ∗ oRowPts d w (scOut (xBuf m d) (m (eLoc d))))

/-- A SparseCore takes, and hands back, what its sixteen tiles take and hand back. -/
def P : (K (F := F)).Pay (nD := nD) (Val := Elt F) (Name := ℕ) (U := UU) where
  st := fun q d c => match q with | 0 => bigSep Finset.univ fun s : Fin 16 => goPts m d (widOf c s)
  dn := fun q d c => match q with | 0 => bigSep Finset.univ fun s : Fin 16 => tdPts m d (widOf c s)
  go := fun q d c s => match q with | 0 => goPts m d (widOf c s)
  td := fun q d c s => match q with | 0 => tdPts m d (widOf c s)
  x := fun _ _ => iprop(emp)

/-- What the handshakes carry may be stored in an invariant. -/
instance P_storable : (P (F := F) m).IsStorable where
  st q d c := match q with
    | 0 => (inferInstance : BI.Storable (upEmb : UEmb _ 𝕄) (bigSep Finset.univ fun s : Fin 16 => goPts m d (widOf c s)))
  dn q d c := match q with
    | 0 => (inferInstance : BI.Storable (upEmb : UEmb _ 𝕄) (bigSep Finset.univ fun s : Fin 16 => tdPts m d (widOf c s)))
  go q d c s := match q with | 0 => (inferInstance : BI.Storable (upEmb : UEmb _ 𝕄) (goPts m d (widOf c s)))
  td q d c s := match q with | 0 => (inferInstance : BI.Storable (upEmb : UEmb _ 𝕄) (tdPts m d (widOf c s)))

/-- What a SparseCore is given is what its tiles are given, and what they give back is what it gives back. -/
theorem vecSplit : (K (F := F)).VecSplit' (P m) 0 := by
  intro d c
  show bigSep Finset.univ (fun s : Fin 16 => goPts m d (widOf c s)) ⊢ |={Set.univ}=> iprop(
      bigSep Finset.univ (fun s : Fin 16 => goPts m d (widOf c s))
      ∗ (bigSep Finset.univ (fun s : Fin 16 => tdPts m d (widOf c s)) -∗ bigSep Finset.univ (fun s : Fin 16 => tdPts m d (widOf c s))))
  iintro H; imodintro
  isplitl [H]; · iexact H
  iintro H; iexact H

end Cert.Proof.PosEnc

end
-- ==== Proof.Region.lean ====
/-
  The TensorCore call of `KernelIdeal`, at any float values `F`: eight grid points, point `t` adding the rows from
  `960 * t` of the two operands into the same rows of the result. After it the result's first 7680 rows are the sums, and
  its other rows are as they were.
-/
module

public import proofs.«01_k».proof.Proof.Common
public import Idealize.ShloMosaic.Lib.Pipeline.Value
public import Idealize.ShloMosaic.Lib.VecWindow
public import Idealize.ShloMosaic.Lib.Pipeline.ValueKit.Partial
public import Idealize.ShloMosaic.Lib.Pipeline.RegionsLoop

@[expose] public section

noncomputable section

namespace Cert.Proof.PosEnc

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The body -/

/-- The sum of two blocks, element by element. -/
abbrev sumBlk (x e : S960x1024.Idx → Elt F .f32) : S960x1024.Idx → Elt F .f32 := fun j => FloatOps.addf (φ := .f32) (x j) (e j)

/-- From its three staging buffers whole, the body leaves the sum of what the first two read in the third. -/
theorem add_block (c : Dev nD) (i : grid0.Coords) (M0 : Memref sig .tc .vmem S960x1024 .f32) (h0 : M0.IsWhole)
    (M1 : Memref sig .tc .vmem S960x1024 .f32) (h1 : M1.IsWhole) (M2 : Memref sig .tc .vmem S960x1024 .f32) (h2 : M2.IsWhole)
    (X0 X1 X2 : S960x1024.Idx → Elt F .f32) (Q : PUnit → sProp 𝕄) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1
            ∗ owns (c : Thread nD τ) M2 fullShare (sumBlk X0 X1)) -∗ Q ⟨⟩))
      ⊢ wp frame (wpE (defs₀ (F := F)) 𝒱₀ (c : Thread nD τ) none) Set.univ (cc0__add_block i M0 h0 M1 h1 M2 h2) Q := by
  unfold owns
  rw [h0.set_eq_univ, h1.set_eq_univ, h2.set_eq_univ]
  iintro ⟨⟨%f0, %hf0, H0⟩, ⟨%f1, %hf1, H1⟩, ⟨%f2, -, H2⟩, Hk⟩
  sl_exec!
  sl_step
  iapply Hk
  isplitl [H0]
  · iexists f0; isplitr; · ipureintro; exact hf0
    iexact H0
  isplitl [H1]
  · iexists f1; isplitr; · ipureintro; exact hf1
    iexact H1
  iexists _; isplitr; swap; · iexact H2
  ipureintro
  unfold add_block.sl.H2_1
  refine (View.read_writes_full M2.view _ _ _ _).trans ?_
  unfold k0_pay1
  rw [View.readAt_full, View.readAt_full, hf0, hf1, shapeCast_self]
  rfl

/-! ## What the call leaves -/

/-- Element `(960 * t + j0, j1)` of an array of 8192 rows: where element `j` of point `t`'s block sits. -/
def bix (t : Fin grid0.N) (j : S960x1024.Idx) : S8192x1024.Idx :=
  fun
  | 0 => ⟨t.val * 960 + (j 0).val, by
      have h : t.val < 8 := lt_of_lt_of_eq t.isLt N_0
      have : (j 0).val < 960 := (j 0).isLt
      show _ < 8192; omega⟩
  | 1 => ⟨(j 1).val, (j 1).isLt⟩

/-- What the call leaves in its result, from the operands and from what the result held. -/
def tcOut (x e o : S8192x1024.Idx → Elt F .f32) : S8192x1024.Idx → Elt F .f32 :=
  fun i => if (i 0).val < 7680 then FloatOps.addf (φ := .f32) (x i) (e i) else o i

/-! ## The proof data -/

variable (V : (c : Dev nD) → (b : Ref sig .tc) → Buf (Elt F) ((c : Thread nD τ).loc b))

/-- The element-by-element sum of the operands, whole. -/
abbrev sumAll (c : Dev nD) : S8192x1024.Idx → Elt F .f32 := fun i => FloatOps.addf (φ := .f32) (V c main_v0 i) (V c main_arg1 i)

/-- The scoped buffers the call does not stage. -/
abbrev Φ₀ (c : Dev nD) : sProp 𝕄 := Pipeline.scopedRest (Ix := HIx 1) (Name := ℕ) (U := UU) (Lvl := ℕ) (Val := Elt F) spec0 c

/-- What runs beside the loop: the scoped buffers it does not stage, the start signals the TensorCore still owes the
    SparseCores, and the waits it has recorded, none of them one of the handshakes'. -/
def dat (c : Dev nD) : Dat τ (Elt F) (HIx 1) ℕ UU ℕ cfg0 c where
  A w := V c (Pipeline.arrRef spec0 w)
  after w t := match w with
    | ⟨0, _⟩ => fun j => V c main_v0 (bix t j)
    | ⟨1, _⟩ => fun j => V c main_arg1 (bix t j)
    | ⟨2, _⟩ => fun j => sumAll V c (bix t j)
  Φ _ := Φ₀ c
  q _ := fullShare
  owed _ := (K (F := F)).Otc c 0
  recorded _ := {p | p.2 = none}

/-- Every block lies wholly inside its array. -/
theorem clip_none (t : Fin cfg0.N) : (∀ a, (cfg0.win 0).clip (cfg0.grid.coords t) a = none)
    ∧ (∀ a, (cfg0.win 1).clip (cfg0.grid.coords t) a = none) ∧ ∀ a, (cfg0.win 2).clip (cfg0.grid.coords t) a = none := by
  revert t; decide

/-- Point `t`'s block starts at row `960 * t`, on each window. -/
theorem index_val (t : Fin cfg0.N) : ((cfg0.win 0).index t 0 = t.val ∧ (cfg0.win 0).index t 1 = 0)
    ∧ ((cfg0.win 1).index t 0 = t.val ∧ (cfg0.win 1).index t 1 = 0) ∧ ((cfg0.win 2).index t 0 = t.val ∧ (cfg0.win 2).index t 1 = 0) := by
  revert t; decide

/-- Where an element of a block lies in the whole array: 960 rows down for each grid point, of the first operand, -/
theorem emb_x (t : Fin cfg0.N) (y : ((cfg0.win 0).xblock (cfg0.grid.coords t)).Idx) (j : S960x1024.Idx) (h : ∀ a, (y a).val = (j a).val) :
    ((cfg0.win 0).blk t).view.emb y = bix t j := by
  obtain ⟨⟨h0, h1⟩, -, -⟩ := index_val t
  refine funext fun a => Fin.ext ((Window.rect_emb_val (cfg0.win 0) t y a rfl).trans ?_)
  rw [h a]
  fin_cases a
  · exact congrArg (· * 960 + (j 0).val) h0
  · exact (congrArg (· * 1024 + (j 1).val) h1).trans ((congrArg (· + (j 1).val) (Nat.zero_mul 1024)).trans (Nat.zero_add _))

/-- of the second, -/
theorem emb_e (t : Fin cfg0.N) (y : ((cfg0.win 1).xblock (cfg0.grid.coords t)).Idx) (j : S960x1024.Idx) (h : ∀ a, (y a).val = (j a).val) :
    ((cfg0.win 1).blk t).view.emb y = bix t j := by
  obtain ⟨-, ⟨h0, h1⟩, -⟩ := index_val t
  refine funext fun a => Fin.ext ((Window.rect_emb_val (cfg0.win 1) t y a rfl).trans ?_)
  rw [h a]
  fin_cases a
  · exact congrArg (· * 960 + (j 0).val) h0
  · exact (congrArg (· * 1024 + (j 1).val) h1).trans ((congrArg (· + (j 1).val) (Nat.zero_mul 1024)).trans (Nat.zero_add _))

/-- and of the result. -/
theorem emb_o (t : Fin cfg0.N) (y : ((cfg0.win 2).xblock (cfg0.grid.coords t)).Idx) (j : S960x1024.Idx) (h : ∀ a, (y a).val = (j a).val) :
    ((cfg0.win 2).blk t).view.emb y = bix t j := by
  obtain ⟨-, -, ⟨h0, h1⟩⟩ := index_val t
  refine funext fun a => Fin.ext ((Window.rect_emb_val (cfg0.win 2) t y a rfl).trans ?_)
  rw [h a]
  fin_cases a
  · exact congrArg (· * 960 + (j 0).val) h0
  · exact (congrArg (· * 1024 + (j 1).val) h1).trans ((congrArg (· + (j 1).val) (Nat.zero_mul 1024)).trans (Nat.zero_add _))

/-- A block that overhangs its array on no axis is moved whole. -/
theorem moved_all (w : Window sig grid0) (i : grid0.Coords) (h : ∀ a, w.clip i a = none) (j : w.block.Idx) : w.moved i j = true :=
  (w.moved_iff _ j).mpr fun a => by have := (j a).isLt; unfold Window.xsize; rw [h a]; exact this

/-- What the body finds in its block of the first operand, -/
theorem before_x (c : Dev nD) (t : Fin cfg0.N) (d : S960x1024.Idx → Elt F .f32) :
    (dat V c).before 0 t d = fun j => V c main_v0 (bix t j) := by
  rw [Dat.before_fetched _ 0 t (fetch0_0 t) d]
  funext j
  unfold Dat.fetched Window.fill
  rw [dif_pos (moved_all (cfg0.win 0) _ (clip_none t).1 j)]
  unfold Dat.blockOf
  rw [View.read_apply]
  exact (cast_eq _ _).trans (congrArg (V c main_v0) (emb_x t _ j fun _ => rfl))

/-- and in its block of the second. -/
theorem before_e (c : Dev nD) (t : Fin cfg0.N) (d : S960x1024.Idx → Elt F .f32) :
    (dat V c).before 1 t d = fun j => V c main_arg1 (bix t j) := by
  rw [Dat.before_fetched _ 1 t (fetch0_1 t) d]
  funext j
  unfold Dat.fetched Window.fill
  rw [dif_pos (moved_all (cfg0.win 1) _ (clip_none t).2.1 j)]
  unfold Dat.blockOf
  rw [View.read_apply]
  exact (cast_eq _ _).trans (congrArg (V c main_arg1) (emb_e t _ j fun _ => rfl))

/-- The result's array after the eight points. -/
theorem arr_out (c : Dev nD) : (dat V c).arrAt 2 cfg0.N = tcOut (V c main_v0) (V c main_arg1) (V c main_v1) :=
  (dat V c).arrAt_eq_of_coversWhere 2 (sumAll V c) (P := fun i => (i 0).val < 7680) (fun β => β 0 < 8) (by decide +kernel)
    (fun t _ y => (cast_eq _ _).trans (congrArg (sumAll V c) (emb_o t y _ fun _ => rfl).symm))
    (fun j => by
      show (j 0).val < 7680 ↔ (j 0).val / 960 < 8
      omega) (Memref.isWhole_whole _)

/-- The body's obligation at every point. -/
theorem body_obligation (c : Dev nD) : BodyObligation (dat V c) (defs₀ (F := F)) 𝒱₀ (none : HIx 1) Set.univ := fun t => by
  rw [bigSep_W0, bigSep_W0, show (dat V c).Φ t.castSucc = Φ₀ c from rfl, show (dat V c).Φ t.succ = Φ₀ c from rfl]
  rw [show (dat V c).owesAt (none : HIx 1) t.succ = (dat V c).owesAt (none : HIx 1) t.castSucc from rfl]
  iintro ⟨HΦ, Howes, ⟨%d0, H0⟩, ⟨%d1, H1⟩, ⟨%d2, H2⟩⟩
  iapply (add_block c (grid0.coords t) ((cfg0.win 0).stage (cfg0.slots t 0)) (hstage0_0 ((cfg0.slots t 0).cast nbuf0_0))
    ((cfg0.win 1).stage (cfg0.slots t 1)) (hstage0_1 ((cfg0.slots t 1).cast nbuf0_1))
    ((cfg0.win 2).stage (cfg0.slots t 2)) (hstage0_2 ((cfg0.slots t 2).cast nbuf0_2))
    (fun j => V c main_v0 (bix t j)) (fun j => V c main_arg1 (bix t j)) ((dat V c).before 2 t d2))
  isplitl [H0]; · iapply (Entails.of_eq (congrArg (owns _ _ _) (before_x V c t d0))); iexact H0
  isplitl [H1]; · iapply (Entails.of_eq (congrArg (owns _ _ _) (before_e V c t d1))); iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The region -/

/-- The one way to enter the call: it has no scalar operands. -/
abbrev adm : (p : Fin 1) → (pcfgs (F := F) p).Adm := fun p => (cfgs p).toPCfg_adm

/-- The proof data of the program's one TensorCore call. -/
def pdats : (p : Fin 1) → (c : Dev nD) → Dat τ (Elt F) (HIx 1) ℕ UU ℕ (Pipeline.pin (pcfgs (F := F)) adm p) c
  | 0 => fun c => dat V c

/-- The TensorCore's debts before the SparseCore call are all at the handshakes' indices. -/
theorem Otc_none (d : Dev nD) (g : GSem nD τ sig) : (K (F := F)).Otc d 0 g (none : HIx 1) = 0 := by
  by_contra h
  have := (K (F := F)).lev_of_Otc_pos (d := d) (n := 0) (g := g) (ι := none) (Nat.pos_of_ne_zero h)
  exact absurd this (by show ¬ (_ ≤ 0); omega)

/-- The buffers after the call. -/
def Vp (c : Dev nD) : (b : Ref sig .tc) → Buf (Elt F) ((c : Thread nD τ).loc b) :=
  Function.update (V c) main_v1 (tcOut (V c main_v0) (V c main_arg1) (V c main_v1))

/-- After the call its result holds the sums in the first 7680 rows, -/
theorem Vp_out (c : Dev nD) : Vp V c main_v1 = tcOut (V c main_v0) (V c main_arg1) (V c main_v1) := Function.update_self ..

/-- and every other array holds what it held. -/
theorem Vp_ne (c : Dev nD) (b : Ref sig .tc) (h : b ≠ main_v1) : Vp V c b = V c b := Function.update_of_ne h ..

/-- What the TensorCore owes before the SparseCore call, no wait of a handshake recorded. -/
abbrev owesTC (c : Dev nD) : sProp 𝕄 :=
  iprop(∃ W : Waits sig (HIx 1), ⌜(↑W : Set (SemLoc sig × HIx 1)) ⊆ {p | p.2 = none}⌝ ∗ owes (c : Thread nD τ) ((K (F := F)).Otc c 0) W)

set_option backward.isDefEq.respectTransparency.types false in
/-- The call, entered from every unscoped buffer at `V` and left with them at `Vp V`. -/
def reg : Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t => (K (F := F)).mayWait_none _ (Otc_none c)
  pre c := iprop(unscopedBufs c (V c) ∗ owesTC (F := F) c)
  post c := iprop(unscopedBufs c (Vp V c) ∗ owesTC (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iexact Hrest
  hin c := by
    rw [show (pdats V 0 c).Φ 0 = Φ₀ c from rfl]
    iintro ⟨-, -, Hr⟩; iexact Hr
  hout c := by
    rw [Pipeline.ownSems0_none, show (pdats V 0 c).Φ (Fin.last _) = Φ₀ c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp V c) ((pdats V 0 c).arrAt · cfg0.N)
      (fun w => by
        fin_cases w
        · exact ((pdats V 0 c).arrAt_in 0 rfl _).trans (Vp_ne V c main_v0 (by decide)).symm
        · exact ((pdats V 0 c).arrAt_in 1 rfl _).trans (Vp_ne V c main_arg1 (by decide)).symm
        · exact (arr_out V c).trans (Vp_out V c).symm)
      (fun b hb => Vp_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · rfl
    iexact HO

end Cert.Proof.PosEnc

end
-- ==== Proof.TileBase.lean ====
module

public import proofs.«01_k».proof.Proof.Common
public import Idealize.ShloMosaic.Lib.Pipeline.Value

@[expose] public section

noncomputable section

namespace Cert.Proof.PosEnc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S8192x1024 EltTy.f32)
local notation "eV" => (Memref.whole Cert.KernelIdeal.main_arg1_scv : Memref Cert.KernelIdeal.sig Kind.scVector Space.hbm Cert.KernelIdeal.S8192x1024 EltTy.f32)
local notation "oV" => (Memref.whole Cert.KernelIdeal.main_v2_scv : Memref Cert.KernelIdeal.sig Kind.scVector Space.hbm Cert.KernelIdeal.S512x1024 EltTy.f32)
local notation "sV" => (Memref.whole Cert.KernelIdeal.cc1_scratch0 : Memref Cert.KernelIdeal.sig Kind.scVector Space.vmem Cert.KernelIdeal.S1x16 EltTy.i32)
local notation "bxV" => (Memref.whole Cert.KernelIdeal.cc1_scratch1 : Memref Cert.KernelIdeal.sig Kind.scVector Space.vmem Cert.KernelIdeal.S16x1024 EltTy.f32)
local notation "beV" => (Memref.whole Cert.KernelIdeal.cc1_scratch2 : Memref Cert.KernelIdeal.sig Kind.scVector Space.vmem Cert.KernelIdeal.S16x1024 EltTy.f32)

variable (m : (ℓ : Loc nD τ sig) → Buf (Elt F) ℓ)
variable (d : Dev nD) (L : grid1.Coords)

/-- The SparseCore and the tile at grid coordinates `L`. -/
abbrev cV (L : grid1.Coords) : Fin τ.nSC := (L 0).castLE hcore1
abbrev jV (L : grid1.Coords) : Fin τ.nSub := (L 1).castLE hsub1
/-- The block the tile at coordinates `L` works on. -/
abbrev wL (L : grid1.Coords) : Fin 32 := widOf (show Fin 2 from L 0) (show Fin 16 from L 1)

/-- The number of a tile's block. -/
theorem wL_val : (wL L).val = (L 1).val * 2 + (L 0).val := rfl

/-- The block of the result as the tile addresses it. -/
abbrev orowK (L : grid1.Coords) : Rect S512x1024 := Rect.unit (s := S512x1024) (k1_off3 L) S16x1024.size (k1_off3_inb L)
/-- The block of the result a tile writes, as the body slices it, -/
abbrev oRowK (L : grid1.Coords) : Memref sig .scVector .hbm S16x1024 .f32 := (oV).slice (orowK L) (fun _ => rfl)

/-- which is the block of its number, -/
theorem orowK_eq : orowK L = orow (wL L) := by
  unfold orowK orow Rect.part Rect.block
  congr 1 <;> funext a
  · rw [k1_off3_eq]
    match a with
    | 0 =>
      show 32 * (L 1).val + 16 * (L 0).val = (wL L).val * 16
      rw [wL_val]; omega
    | 1 => simp [Shape.partIx, Shape.partSize]
  · match a with
    | 0 => simp [Shape.partSize]
    | 1 => simp [Shape.partSize]

/-- at the same indices. -/
theorem set_oRowK : (oRowK L).view.set = oRowSet (wL L) := by
  show ((oV).view.slice (orowK L)).set = (orow (wL L)).set
  rw [orowK_eq, View.set_slice]
  ext i; simp

/-! ## The subcore's own semaphores and buffers -/

/-- The DMA semaphores the tile uses: the `x` copy's, the eight gathers', the write-out's. -/
abbrev tileSems : List (DmaSem sig) := [6, 7, 8, 9, 10, 11, 12, 13, 14, 15]
/-- A transfer semaphore of a tile, -/
abbrev dcell (d : Dev nD) (L : grid1.Coords) (n : DmaSem sig) : GSem nD τ sig := (V d (cV L) (jV L), .dma n)

/-- a different one for each number, -/
theorem dcell_inj : Function.Injective (dcell d L) := fun a b h => by
  simpa [dcell] using h

/-- and its own. -/
theorem tileSems_sub : (tileSems.map (dcell d L)).toFinset ⊆ ownCells (V d (cV L) (jV L)) := by
  intro g hg
  obtain ⟨n, hn, rfl⟩ := List.mem_map.mp (List.mem_toFinset.mp hg)
  refine mem_ownCells.mpr ⟨rfl, ?_⟩
  have : ∀ n ∈ tileSems, (SemLoc.dma n : SemLoc sig).isScoped .scVector = true := by decide
  exact this n hn

/-- The tile's semaphores are among the subcore's own: they are them, at zero, and the rest. -/
theorem ownSems0_V : (ownSems0 (V d (cV L) (jV L)) : sProp 𝕄)
    = iprop((semVal (dcell d L 6) 0 ∗ semVal (dcell d L 7) 0 ∗ semVal (dcell d L 8) 0 ∗ semVal (dcell d L 9) 0 ∗ semVal (dcell d L 10) 0
          ∗ semVal (dcell d L 11) 0 ∗ semVal (dcell d L 12) 0 ∗ semVal (dcell d L 13) 0 ∗ semVal (dcell d L 14) 0 ∗ semVal (dcell d L 15) 0)
        ∗ bigSep (ownCells (V d (cV L) (jV L)) \ (tileSems.map (dcell d L)).toFinset) fun g => semVal g 0) := by
  unfold SparseCore.Cfg.ownSems0
  rw [SparseCore.bigSep_sdiff_split' (tileSems_sub d L), bigSep_eq_bigSepL _ (List.Nodup.map (dcell_inj d L) (by decide))]
  rfl

/-- The tile's scratch buffers: the list of indices, the rows of `x`, the rows of the encoding. -/
abbrev tileRefs : List (Ref sig .scVector) := [cc1_scratch0, cc1_scratch1, cc1_scratch2]
/-- A tile's three buffers are distinct, -/
theorem tileRefs_nodup : tileRefs.Nodup := by decide

/-- and the subcore's own buffers are these three, at any contents, and the rest. -/
theorem ownBufs_V : (ownBufs (V d (cV L) (jV L)) : sProp 𝕄)
    = iprop(((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f))
        ∗ bigSep (ownRefs (τ := τ) (.scVector (cV L) (jV L)) \ (tileRefs.map (Proc.scVector (cV L) (jV L)).devRef).toFinset)
            fun b => iprop(∃ f, ((d, b) : Loc nD τ sig) ↦{fullShare} f)) := by
  unfold SparseCore.Cfg.ownBufs
  refine (SparseCore.bigSep_sdiff_split' (t := (tileRefs.map (Proc.scVector (cV L) (jV L)).devRef).toFinset) ?_).trans ?_
  rotate_left
  · rw [bigSep_eq_bigSepL _ (List.Nodup.map (Proc.devRef_injective _) tileRefs_nodup)]
    rfl
  intro b hb
  obtain ⟨r, hr, rfl⟩ := List.mem_map.mp (List.mem_toFinset.mp hb)
  refine SparseCore.Cfg.mem_ownRefs_of_owner ?_
  rcases List.mem_cons.mp hr with rfl | hr
  · rfl
  rcases List.mem_cons.mp hr with rfl | hr
  · rfl
  · obtain rfl := List.mem_singleton.mp hr
    rfl

/-! ## One read token per gather -/

/-- What is left of a share `q` of a buffer once the tokens of the gathers' semaphores, 7 to 14, are taken out of it. -/
abbrev tokRest {ℓ : Loc nD τ sig} (q : PosShare TreeShare) (f : Buf (Elt F) ℓ) : sProp 𝕄 :=
  iprop((ℓ ↦{Transfers.shareDrop q 15} f) ∗ bigSep (Finset.range 7) fun i => ℓ ↦{Transfers.shareTokN q i} f)

/-- Three resources, the first two exchanged. -/
theorem sep_swap (A B C : sProp 𝕄) : iprop(A ∗ B ∗ C) = iprop(B ∗ A ∗ C) := by
  refine BI.Entails.antisymm (show iprop(A ∗ B ∗ C) ⊢ iprop(B ∗ A ∗ C) from ?_) (show iprop(B ∗ A ∗ C) ⊢ iprop(A ∗ B ∗ C) from ?_)
  · iintro ⟨Ha, Hb, Hc⟩
    isplitl [Hb]; · iexact Hb
    isplitl [Ha] <;> iassumption
  · iintro ⟨Hb, Ha, Hc⟩
    isplitl [Ha]; · iexact Ha
    isplitl [Hb] <;> iassumption

/-- A buffer held at a share is held at the eight tokens of the gathers' semaphores and at what is left. -/
theorem pointsTo_toks8 {ℓ : Loc nD τ sig} (q : PosShare TreeShare) (f : Buf (Elt F) ℓ) :
    (ℓ ↦{q} f : sProp 𝕄) = iprop(((ℓ ↦{Transfers.shareTokN q 7} f) ∗ (ℓ ↦{Transfers.shareTokN q 8} f) ∗ (ℓ ↦{Transfers.shareTokN q 9} f)
      ∗ (ℓ ↦{Transfers.shareTokN q 10} f) ∗ (ℓ ↦{Transfers.shareTokN q 11} f) ∗ (ℓ ↦{Transfers.shareTokN q 12} f) ∗ (ℓ ↦{Transfers.shareTokN q 13} f)
      ∗ (ℓ ↦{Transfers.shareTokN q 14} f)) ∗ tokRest q f) := by
  have h : (bigSep (Finset.range 15) fun i => ℓ ↦{Transfers.shareTokN q i} f : sProp 𝕄)
      = iprop((bigSepL [7, 8, 9, 10, 11, 12, 13, 14] fun i => ℓ ↦{Transfers.shareTokN q i} f)
          ∗ bigSep (Finset.range 7) fun i => ℓ ↦{Transfers.shareTokN q i} f) := by
    rw [show Finset.range 15 = [7, 8, 9, 10, 11, 12, 13, 14].toFinset ∪ Finset.range 7 by decide, SparseCore.bigSep_union' (by decide),
      bigSep_eq_bigSepL _ (by decide)]
  refine (BI.Entails.antisymm (Transfers.pointsTo_toks_range q 15).1 (Transfers.pointsTo_toks_range q 15).2).trans ?_
  rw [h, sep_swap]
  rfl

/-! ## The list of rows the tile gathers -/

/-- Word `l` of the list: the row of the encoding for row `l` of the tile's block. -/
def iBuf (L : grid1.Coords) : Buf (Elt F) ((V d (cV L) (jV L)).loc cc1_scratch0) := k1_pay2 L

/-- The list as a gather addresses it. -/
abbrev offsK : Memref sig .scVector .vmem S16 .i32 :=
  ((sV).slice (Rect.unit (s := S1x16) ![0, 0] S1x16.size inb_S1x16_S1x16_0_0) (fun _ => rfl)).squeeze S16 squeezes_S1x16_S16

/-- Word `l` of the list, for the tile at core `c` and subcore `s`, does not wrap around. -/
theorem word_val (s c l : ℕ) (hs : s < 16) (hc : c < 2) (hl : l < 16) :
    (Scalar.addi 7680#32 (Scalar.muli (Scalar.addi (Scalar.muli (BitVec.ofNat 32 s) 2#32) (BitVec.ofNat 32 c)) 16#32) + BitVec.ofNat 32 l).toNat
      = 7680 + 16 * (s * 2 + c) + l := by
  show (7680#32 + (BitVec.ofNat 32 s * 2#32 + BitVec.ofNat 32 c) * 16#32 + BitVec.ofNat 32 l).toNat = _
  simp only [BitVec.toNat_add, BitVec.toNat_mul, BitVec.toNat_ofNat]
  omega

/-- Entry `x` of the list of rows a tile has written is its own row number in the table, -/
theorem offs_read (x : S16.Idx) : ((offsK).view.read (Elt F) (iBuf d L) x).toNat = 7680 + 16 * (wL L).val + (x 0).val := by
  have h0 : (L 0).val < 2 := (L 0).isLt
  have h1 : (L 1).val < 16 := (L 1).isLt
  have hx : (x 0).val < 16 := (x 0).isLt
  rw [wL_val, ← word_val (L 1).val (L 0).val (x 0).val h1 h0 hx]
  show (k1_pay2 L ((Rect.unit (s := S1x16) ![0, 0] S1x16.size inb_S1x16_S1x16_0_0).emb (Shape.reshapeEquiv squeezes_S1x16_S16.numel_eq x))).toNat = _
  unfold k1_pay2
  rw [shapeCast_apply _ _ _ x]
  · exact congrArg BitVec.toNat (congrArg (_ + ·) (iota_single_apply _ _ _ _ _ x))
  · have e : (Rect.unit (s := S1x16) ![0, 0] S1x16.size inb_S1x16_S1x16_0_0).emb (Shape.reshapeEquiv squeezes_S1x16_S16.numel_eq x)
        = Shape.reshapeEquiv squeezes_S1x16_S16.numel_eq x := funext fun a => Fin.ext (by
      show (![0, 0] : Fin 2 → ℕ) a + 1 * _ = _
      match a with
      | 0 => show 0 + 1 * _ = _; omega
      | 1 => show 0 + 1 * _ = _; omega)
    rw [e]
    exact (Shape.rowMajor_reshapeEquiv squeezes_S1x16_S16.numel_eq x).symm

/-- which is in the table. -/
theorem offs_in : ∀ x, ((offsK).view.read (Elt F) (iBuf d L) x).toNat < 8192 := fun x => by
  rw [offs_read]
  have h1 : (wL L).val < 32 := (wL L).isLt
  have h2 : (x 0).val < 16 := (x 0).isLt
  omega

end Cert.Proof.PosEnc

end
-- ==== Proof.Lanes.lean ====
module

public import proofs.«01_k».proof.Proof.TileBase
public import Idealize.ShloMosaic.Lib.Pipeline.Value

@[expose] public section

noncomputable section

namespace Cert.Proof.PosEnc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S8192x1024 EltTy.f32)
local notation "eV" => (Memref.whole Cert.KernelIdeal.main_arg1_scv : Memref Cert.KernelIdeal.sig Kind.scVector Space.hbm Cert.KernelIdeal.S8192x1024 EltTy.f32)
local notation "oV" => (Memref.whole Cert.KernelIdeal.main_v2_scv : Memref Cert.KernelIdeal.sig Kind.scVector Space.hbm Cert.KernelIdeal.S512x1024 EltTy.f32)
local notation "sV" => (Memref.whole Cert.KernelIdeal.cc1_scratch0 : Memref Cert.KernelIdeal.sig Kind.scVector Space.vmem Cert.KernelIdeal.S1x16 EltTy.i32)
local notation "bxV" => (Memref.whole Cert.KernelIdeal.cc1_scratch1 : Memref Cert.KernelIdeal.sig Kind.scVector Space.vmem Cert.KernelIdeal.S16x1024 EltTy.f32)
local notation "beV" => (Memref.whole Cert.KernelIdeal.cc1_scratch2 : Memref Cert.KernelIdeal.sig Kind.scVector Space.vmem Cert.KernelIdeal.S16x1024 EltTy.f32)

variable (d : Dev nD) (L : grid1.Coords)
variable [FloatOps F]

/-- The rows of `x` with the lanes before the `n`-th (counted row by row) already summed with the encoding's. -/
def mix (X E : S16x1024.Idx → Elt F .f32) (n : ℕ) : S16x1024.Idx → Elt F .f32 :=
  fun i => if (i 0).val * 1024 + (i 1).val < n then FloatOps.addf (φ := .f32) (X i) (E i) else X i

/-- Before the first element is summed the array is `X`, -/
theorem mix_zero (X E : S16x1024.Idx → Elt F .f32) : mix X E 0 = X := funext fun i => if_neg (Nat.not_lt_zero _)

/-- and after the last it is the sum. -/
theorem mix_all (X E : S16x1024.Idx → Elt F .f32) : mix X E 16384 = fun i => FloatOps.addf (φ := .f32) (X i) (E i) :=
  funext fun i => if_pos (by
    have h0 : (i 0).val < 16 := (i 0).isLt
    have h1 : (i 1).val < 1024 := (i 1).isLt
    omega)

/-- The two buffers of rows, each held at given contents. -/
abbrev bxPts (f : S16x1024.Idx → Elt F .f32) : sProp 𝕄 := (bxV).view.loc (V d (cV L) (jV L)) ↦{fullShare} f
abbrev bePts (f : S16x1024.Idx → Elt F .f32) : sProp 𝕄 := (beV).view.loc (V d (cV L) (jV L)) ↦{fullShare} f

/-- The vector a lane step stores is the sum of the two it loads, element by element. -/
theorem pay1_apply (a b : S1x16.Idx → Elt F .f32) (x : S1x16.Idx) : k1_pay1 a b x = FloatOps.addf (φ := .f32) (a x) (b x) := by
  show FloatOps.addf (φ := .f32) (shapeCast S1x16 (shapeCast S16 a shapeCasts_S1x16_S16) shapeCasts_S16_S1x16 x)
    (shapeCast S1x16 (shapeCast S16 b shapeCasts_S1x16_S16) shapeCasts_S16_S1x16 x) = _
  rw [shapeCast_shapeCast, shapeCast_shapeCast]

/-- A place outside the rectangle a store writes reads what was there. -/
theorem read_store_miss {κ : Kind} {sp : Space} {s : Shape} {e : EltTy} (v : View sig κ sp s e) (f : v.ty.Contents (Elt F)) (r : Rect s)
    (w : r.shape.Idx → Elt F e) (y : s.Idx) (hy : y ∉ r.set) : v.read (Elt F) (v.writes (Elt F) f [⟨r, w⟩]) y = v.read (Elt F) f y :=
  View.read_writes_cons_miss v f ⟨r, w⟩ [] y hy

/-- The lanes a trip stores to. -/
abbrev laneR (t1 : Fin k1_t1_loop.trips) (t2 : Fin k1_t2_loop.trips) : Rect S16x1024 :=
  Rect.unit (s := S16x1024) (k1_off2 t1 t2) S1x16.size (k1_off2_inb t1 t2)

/-- One trip's store takes the rows with the lanes before `1024 * t1 + 16 * t2` summed to those with 16 more summed. -/
theorem mix_step (X E : S16x1024.Idx → Elt F .f32) (t1 : Fin k1_t1_loop.trips) (t2 : Fin k1_t2_loop.trips) :
    (bxV).view.writes (Elt F) (mix X E (1024 * t1.val + 16 * t2.val)) [⟨laneR t1 t2,
      k1_pay1 (View.readAt (Elt F) (bxV).view (laneR t1 t2).toLoadRect (mix X E (1024 * t1.val + 16 * t2.val)))
        (View.readAt (Elt F) (beV).view (laneR t1 t2).toLoadRect E)⟩]
      = mix X E (1024 * t1.val + 16 * (t2.val + 1)) := by
  have ht1 : t1.val < 16 := Nat.lt_of_lt_of_le t1.isLt k1_t1_abs.2.1
  have ht2 : t2.val < 64 := Nat.lt_of_lt_of_le t2.isLt k1_t2_abs.2.1
  funext y
  have h1 : (y 1).val < 1024 := (y 1).isLt
  refine (congrFun (View.read_whole (Val := Elt F) cc1_scratch1 _) y).symm.trans ?_
  by_cases hy : y ∈ (laneR t1 t2).set
  · obtain ⟨x, rfl⟩ := (laneR t1 t2).exists_idx_of_mem hy
    have hx1 : (x 1).val < 16 := (x 1).isLt
    have hx0 : (x 0).val < 1 := (x 0).isLt
    have e0 : ((laneR t1 t2).emb x 0).val = t1.val := by
      show k1_off2 t1 t2 0 + 1 * (x 0).val = _
      rw [k1_off2_eq]; show t1.val + _ = _; omega
    have e1 : ((laneR t1 t2).emb x 1).val = 16 * t2.val + (x 1).val := by
      show k1_off2 t1 t2 1 + 1 * (x 1).val = _
      rw [k1_off2_eq]; show 16 * t2.val + _ = _; omega
    refine (View.read_writes_cons_emb (bxV).view _ (laneR t1 t2) _ [] x).trans ?_
    rw [pay1_apply]
    show FloatOps.addf (φ := .f32) (mix X E _ ((laneR t1 t2).emb x)) (E ((laneR t1 t2).emb x)) = _
    show FloatOps.addf (φ := .f32) (if ((laneR t1 t2).emb x 0).val * 1024 + ((laneR t1 t2).emb x 1).val < _ then _ else _) _
      = if ((laneR t1 t2).emb x 0).val * 1024 + ((laneR t1 t2).emb x 1).val < _ then _ else _
    rw [if_neg (by omega), if_pos (by omega)]
    rfl
  · refine (read_store_miss (bxV).view _ (laneR t1 t2) _ y hy).trans ?_
    show mix X E (1024 * t1.val + 16 * t2.val) y = _
    have hn : ¬ ((y 0).val = t1.val ∧ 16 * t2.val ≤ (y 1).val ∧ (y 1).val < 16 * t2.val + 16) := fun h => hy (by
      rw [Rect.mem_set_unit]
      intro a
      rw [k1_off2_eq]
      match a with
      | 0 => show t1.val ≤ (y 0).val ∧ (y 0).val < t1.val + 1; omega
      | 1 => show 16 * t2.val ≤ (y 1).val ∧ (y 1).val < 16 * t2.val + 16; omega)
    unfold mix
    by_cases hlt : (y 0).val * 1024 + (y 1).val < 1024 * t1.val + 16 * t2.val
    · rw [if_pos hlt, if_pos (by omega)]
    · rw [if_neg hlt, if_neg (by omega)]

/-- One trip of the inner loop: four stores of 16 lanes, which move the border between summed and not yet summed on by 64. -/
theorem trip2 (X E : S16x1024.Idx → Elt F .f32) (t1 : Fin k1_t1_loop.trips) (t2 : Fin k1_t2_loop.trips) :
    iprop(bxPts d L (mix X E (1024 * t1.val + 16 * t2.val)) ∗ bePts d L E)
      ⊢ wp frame (wpE (defs₀ (F := F)) 𝒱₀ (V d (cV L) (jV L)) none) Set.univ
          (k1_t2_body L xV (Memref.isWhole_whole _) eV (Memref.isWhole_whole _) oV (Memref.isWhole_whole _)
            sV (Memref.isWhole_whole _) bxV (Memref.isWhole_whole _) beV (Memref.isWhole_whole _) cc1_scratch3 cc1_scratch4 cc1_scoped0 t1 t2 ())
          fun _ => iprop(bxPts d L (mix X E (1024 * t1.val + 16 * (t2.val + 1))) ∗ bePts d L E) := by
  unfold k1_t2_body
  iintro ⟨Hx, He⟩
  sl_exec
  sl_step
  isplitl [Hx]
  · iapply (Entails.of_eq (congrArg (bxPts d L) (mix_step X E t1 t2))) $$ Hx
  · iexact He

/-- A row of lanes: the inner loop takes the rows summed before row `t1` to the rows summed before the next. -/
theorem trip1 (X E : S16x1024.Idx → Elt F .f32) (t1 : Fin k1_t1_loop.trips) :
    iprop(bxPts d L (mix X E (1024 * t1.val)) ∗ bePts d L E)
      ⊢ wp frame (wpE (defs₀ (F := F)) 𝒱₀ (V d (cV L) (jV L)) none) Set.univ
          (k1_t1_body L xV (Memref.isWhole_whole _) eV (Memref.isWhole_whole _) oV (Memref.isWhole_whole _)
            sV (Memref.isWhole_whole _) bxV (Memref.isWhole_whole _) beV (Memref.isWhole_whole _) cc1_scratch3 cc1_scratch4 cc1_scoped0 t1 ())
          fun _ => iprop(bxPts d L (mix X E (1024 * (t1.val + 1))) ∗ bePts d L E) := by
  unfold k1_t1_body
  iintro ⟨Hx, He⟩
  sl_for (fun (k : ℕ) (_ : Unit) => iprop(bxPts d L (mix X E (1024 * t1.val + 16 * k)) ∗ bePts d L E)) $$ [Hx He]
  · intro t2 _
    exact trip2 d L X E t1 t2
  · isplitl [Hx] <;> iassumption
  · iintro %acc H
    have e : 1024 * t1.val + 16 * k1_t2_loop.trips = 1024 * (t1.val + 1) := by
      rw [show k1_t2_loop.trips = 64 by decide]; omega
    ihave H := (Entails.of_eq (congrArg (fun n => iprop(bxPts d L (mix X E n) ∗ bePts d L E)) e)) $$ H
    sl_step
    iexact H

end Cert.Proof.PosEnc

end
-- ==== Proof.TileValues.lean ====
/-
  What the tile's copies and gathers bring: row `i` of the tile's block is row `7680 + 16 * w + i` of the array copied from.
-/
module

public import proofs.«01_k».proof.Proof.TileBase

@[expose] public section

noncomputable section

namespace Cert.Proof.PosEnc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "xV" => (Memref.whole Cert.KernelIdeal.main_v0_scv : Memref Cert.KernelIdeal.sig Kind.scVector Space.hbm Cert.KernelIdeal.S8192x1024 EltTy.f32)
local notation "eV" => (Memref.whole Cert.KernelIdeal.main_arg1_scv : Memref Cert.KernelIdeal.sig Kind.scVector Space.hbm Cert.KernelIdeal.S8192x1024 EltTy.f32)
local notation "oV" => (Memref.whole Cert.KernelIdeal.main_v2_scv : Memref Cert.KernelIdeal.sig Kind.scVector Space.hbm Cert.KernelIdeal.S512x1024 EltTy.f32)
local notation "sV" => (Memref.whole Cert.KernelIdeal.cc1_scratch0 : Memref Cert.KernelIdeal.sig Kind.scVector Space.vmem Cert.KernelIdeal.S1x16 EltTy.i32)
local notation "bxV" => (Memref.whole Cert.KernelIdeal.cc1_scratch1 : Memref Cert.KernelIdeal.sig Kind.scVector Space.vmem Cert.KernelIdeal.S16x1024 EltTy.f32)
local notation "beV" => (Memref.whole Cert.KernelIdeal.cc1_scratch2 : Memref Cert.KernelIdeal.sig Kind.scVector Space.vmem Cert.KernelIdeal.S16x1024 EltTy.f32)

variable (d : Dev nD) (L : grid1.Coords)

/-- Where row `i 0` of the tile's block comes from, at column `i 1`. -/
def rowIx (i : S16x1024.Idx) : S8192x1024.Idx :=
  fun | 0 => ⟨7680 + 16 * (wL L).val + (i 0).val, by
          have h0 : (i 0).val < 16 := (i 0).isLt
          have h1 : (wL L).val < 32 := (wL L).isLt
          show _ < 8192; omega⟩
      | 1 => ⟨(i 1).val, (i 1).isLt⟩

variable [FloatOps F]

/-- The list's buffer after the one store to it: the words stored. -/
theorem list_stored (f : Buf (Elt F) ((V d (cV L) (jV L)).loc cc1_scratch0)) :
    (sV).view.writes (Elt F) f [⟨Rect.unit (s := S1x16) ![0, 0] S1x16.size inb_S1x16_S1x16_0_0, k1_pay2 L⟩] = iBuf d L := by
  funext y
  refine (congrFun (View.read_whole (Val := Elt F) cc1_scratch0 _) y).symm.trans ?_
  have e : (Rect.unit (s := S1x16) ![0, 0] S1x16.size inb_S1x16_S1x16_0_0).emb y = y := funext fun a => Fin.ext (by
    show (![0, 0] : Fin 2 → ℕ) a + 1 * _ = _
    match a with
    | 0 => show 0 + 1 * _ = _; omega
    | 1 => show 0 + 1 * _ = _; omega)
  have h := View.read_writes_cons_emb (Val := Elt F) (sV).view f (Rect.unit (s := S1x16) ![0, 0] S1x16.size inb_S1x16_S1x16_0_0) (k1_pay2 L) [] y
  rw [e] at h
  exact h

/-- The tile's copy of `x` leaves row `i` of its block in row `i` of the buffer. -/
theorem rows_copied (x : S8192x1024.Idx → Elt F .f32) (f : Buf (Elt F) ((V d (cV L) (jV L)).loc cc1_scratch1))
    (h : ∀ a, (Rect.unit (s := S8192x1024) (k1_off1 L) S16x1024.size (k1_off1_inb L)).stride a = 1) :
    View.write (Elt F) (bxV).view f (ReadAs.same.apply (View.read (Elt F)
      ((xV).slice (Rect.unit (s := S8192x1024) (k1_off1 L) S16x1024.size (k1_off1_inb L)) h).view x)) Finset.univ = fun i => x (rowIx L i) := by
  rw [View.write_whole_univ]
  funext i
  show x ((Rect.unit (s := S8192x1024) (k1_off1 L) S16x1024.size (k1_off1_inb L)).emb i) = _
  congr 1
  funext a
  refine Fin.ext ?_
  show k1_off1 L a + 1 * _ = _
  match a with
  | 0 =>
    show k1_off1 L 0 + 1 * (i 0).val = _
    rw [k1_off1_eq]
    show 32 * (L 1).val + 16 * (L 0).val + 7680 + 1 * (i 0).val = 7680 + 16 * (wL L).val + (i 0).val
    rw [wL_val]; omega
  | 1 =>
    show k1_off1 L 1 + 1 * (i 1).val = _
    rw [k1_off1_eq]
    show 0 + 1 * (i 1).val = (i 1).val; omega

/-- The gather of the columns from `c` on brings, to row `i` of the block, row `7680 + 16 * w + i` of the encoding. -/
theorem cols_gathered (e : S8192x1024.Idx → Elt F .f32) (c : ℕ) (h : ∀ a, ![0, c] a + S8192x128.size a ≤ S8192x1024.size a)
    (h1 : ∀ a, (Rect.unit (s := S8192x1024) ![0, c] S8192x128.size h).stride a = 1)
    (h' : ∀ a, ![0, c] a + S16x128.size a ≤ S16x1024.size a) (hin : ∀ x, ((offsK).view.read (Elt F) (iBuf d L) x).toNat < 8192)
    (hn : S16.numel = 16) (x : S16x128.Idx) :
    SparseCore.gatherPayload gathers_S8192x128_S16x128
        (View.read (Elt F) ((eV).slice (Rect.unit (s := S8192x1024) ![0, c] S8192x128.size h) h1).view e)
        (SparseCore.rows (View.read (Elt F) (offsK).view (iBuf d L)) hn hin) x
      = e (rowIx L ((Rect.unit (s := S16x1024) ![0, c] S16x128.size h').emb x)) := by
  show e ((Rect.unit (s := S8192x1024) ![0, c] S8192x128.size h).emb (gathers_S8192x128_S16x128.idx (SparseCore.rows (View.read (Elt F) (offsK).view (iBuf d L)) hn hin) x)) = _
  congr 1
  funext a
  refine Fin.ext ?_
  match a with
  | 0 =>
    show 0 + 1 * (gathers_S8192x128_S16x128.idx (SparseCore.rows (View.read (Elt F) (offsK).view (iBuf d L)) hn hin) x gathers_S8192x128_S16x128.axis).val
      = 7680 + 16 * (wL L).val + (0 + 1 * (x 0).val)
    rw [Shape.Gathers.idx_axis]
    unfold SparseCore.rows
    show 0 + 1 * ((offsK).view.read (Elt F) (iBuf d L) _).toNat = _
    rw [offs_read]
    have e2 : ((S16.rowMajor.symm ((x 0).cast hn.symm)) 0).val = (x 0).val := by
      rw [← Shape.rowMajor_val_one, Equiv.apply_symm_apply]; rfl
    show 0 + 1 * (7680 + 16 * (wL L).val + ((S16.rowMajor.symm ((x 0).cast hn.symm)) 0).val) = _
    rw [e2]; omega
  | 1 =>
    show c + 1 * (gathers_S8192x128_S16x128.idx _ x 1).val = c + 1 * (x 1).val
    rw [Shape.Gathers.idx_of_ne _ _ _ 1 (by decide)]
    rfl

/-- The columns from `c` on of a buffer of the block's rows, and of the encoding, lie in it. -/
theorem col_in (c : ℕ) (hc : c + 128 ≤ 1024) : ∀ a, ![0, c] a + S16x128.size a ≤ S16x1024.size a := fun a => by
  match a with
  | 0 => show 0 + 16 ≤ 16; omega
  | 1 => exact hc
/-- A window of 128 columns that starts in time lies in the table. -/
theorem col_in_table (c : ℕ) (hc : c + 128 ≤ 1024) : ∀ a, ![0, c] a + S8192x128.size a ≤ S8192x1024.size a := fun a => by
  match a with
  | 0 => show 0 + 8192 ≤ 8192; omega
  | 1 => exact hc

/-- What the gather of the columns from `c` on writes, and where. -/
def gcol (e : S8192x1024.Idx → Elt F .f32) (c : ℕ) (hc : c + 128 ≤ 1024)
    (hin : ∀ x, ((offsK).view.read (Elt F) (iBuf d L) x).toNat < 8192) : View.Piece (Elt F) S16x1024 .f32 :=
  ⟨Rect.unit (s := S16x1024) ![0, c] S16x128.size (col_in c hc),
    SparseCore.gatherPayload gathers_S8192x128_S16x128
      (View.read (Elt F) ((eV).slice (Rect.unit (s := S8192x1024) ![0, c] S8192x128.size (col_in_table c hc)) (fun _ => rfl)).view e)
      (SparseCore.rows (View.read (Elt F) (offsK).view (iBuf d L)) (show S16.numel = 16 from rfl) hin)⟩

/-- The eight gathers, in the order of their columns' numbers `cs`, leave the block's rows of the encoding in the buffer. -/
theorem rows_gathered (e : S8192x1024.Idx → Elt F .f32) (f : Buf (Elt F) ((V d (cV L) (jV L)).loc cc1_scratch2))
    (hin : ∀ x, ((offsK).view.read (Elt F) (iBuf d L) x).toNat < 8192) (cs : List {c : ℕ // c + 128 ≤ 1024})
    (hcs : ∀ j < 8, ∃ c ∈ cs, c.val = 128 * j) :
    (beV).view.writes (Elt F) f (cs.map fun c => gcol d L e c.val c.property hin) = fun i => e (rowIx L i) := by
  funext y
  refine (congrFun (View.read_whole (Val := Elt F) cc1_scratch2 _) y).symm.trans ?_
  refine View.read_writes_apply_of_pieces (beV).view f (fun i => e (rowIx L i)) _ ?_ y ?_
  · intro p hp
    obtain ⟨c, -, rfl⟩ := List.mem_map.mp hp
    intro x
    unfold gcol at x ⊢
    exact cols_gathered d L e c.val (col_in_table _ c.property) (fun _ => rfl) (col_in _ c.property) hin rfl x
  have h1 : (y 1).val < 1024 := (y 1).isLt
  have h0 : (y 0).val < 16 := (y 0).isLt
  obtain ⟨c, hc, e⟩ := hcs ((y 1).val / 128) (by omega)
  refine ⟨_, List.mem_map.mpr ⟨c, hc, rfl⟩, ?_⟩
  unfold gcol
  rw [Rect.mem_set_unit]
  intro a
  match a with
  | 0 => show 0 ≤ (y 0).val ∧ (y 0).val < 0 + 16; omega
  | 1 => show c.val ≤ (y 1).val ∧ (y 1).val < c.val + 128; omega

/-- The block written out with the sums of the tile's rows holds what the call computes there. -/
theorem block_written (x e : S8192x1024.Idx → Elt F .f32) (f : S512x1024.Idx → Elt F .f32) :
    ∀ i ∈ (oRowK L).view.set, (oRowK L).view.writes (Elt F) f [⟨Rect.whole S16x1024,
      fun j => FloatOps.addf (φ := .f32) (x (rowIx L j)) (e (rowIx L j))⟩] i = scOut x e i := by
  intro i hi
  obtain ⟨j, -, rfl⟩ := Finset.mem_map.mp hi
  have h := View.read_writes_cons_emb (Val := Elt F) (oRowK L).view f (Rect.whole S16x1024)
    (fun j => FloatOps.addf (φ := .f32) (x (rowIx L j)) (e (rowIx L j))) [] j
  rw [Rect.emb_whole_apply] at h
  refine Eq.trans ?_ (h.trans ?_)
  · exact ((View.read_apply _ _).trans (cast_eq _ _)).symm
  · have hr : rowAt ((oRowK L).view.emb j) = rowIx L j := funext fun a => Fin.ext (by
      match a with
      | 0 =>
        show 7680 + (k1_off3 L 0 + 1 * (j 0).val) = 7680 + 16 * (wL L).val + (j 0).val
        rw [k1_off3_eq, wL_val]
        show 7680 + (32 * (L 1).val + 16 * (L 0).val + 1 * (j 0).val) = _
        omega
      | 1 =>
        show k1_off3 L 1 + 1 * (j 1).val = (j 1).val
        rw [k1_off3_eq]
        show 0 + 1 * (j 1).val = _
        omega)
    unfold scOut
    rw [hr]

end Cert.Proof.PosEnc

end
-- ==== Proof.Tile.lean ====
/-
  A tile's run: the list of rows, the eight gathers and the copy of `x`, the sums, the write-out.
-/
module

public import proofs.«01_k».proof.Proof.Lanes
public import proofs.«01_k».proof.Proof.TileValues

@[expose] public section

noncomputable section

namespace Cert.Proof.PosEnc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S8192x1024 EltTy.f32)
local notation "eV" => (Memref.whole Cert.KernelIdeal.main_arg1_scv : Memref Cert.KernelIdeal.sig Kind.scVector Space.hbm Cert.KernelIdeal.S8192x1024 EltTy.f32)
local notation "oV" => (Memref.whole Cert.KernelIdeal.main_v2_scv : Memref Cert.KernelIdeal.sig Kind.scVector Space.hbm Cert.KernelIdeal.S512x1024 EltTy.f32)
local notation "sV" => (Memref.whole Cert.KernelIdeal.cc1_scratch0 : Memref Cert.KernelIdeal.sig Kind.scVector Space.vmem Cert.KernelIdeal.S1x16 EltTy.i32)
local notation "bxV" => (Memref.whole Cert.KernelIdeal.cc1_scratch1 : Memref Cert.KernelIdeal.sig Kind.scVector Space.vmem Cert.KernelIdeal.S16x1024 EltTy.f32)
local notation "beV" => (Memref.whole Cert.KernelIdeal.cc1_scratch2 : Memref Cert.KernelIdeal.sig Kind.scVector Space.vmem Cert.KernelIdeal.S16x1024 EltTy.f32)

variable (m : (ℓ : Loc nD τ sig) → Buf (Elt F) ℓ)
variable (d : Dev nD) (L : grid1.Coords)

variable [FloatOps F]

/-- A wait at the handshakes' level-free index adds nothing to what a handshake must account for. -/
theorem waits_new {W : Waits sig (HIx 1)} (W' : Waits sig (HIx 1)) (a : SemLoc sig) (h : ∀ p ∈ W', p ∈ W ∨ p.2 = none) :
    ∀ p ∈ insert (a, (default : HIx 1)) W', p ∈ W ∨ p.2 = none := fun p hp =>
  (Finset.mem_insert.mp hp).elim (fun e => Or.inr (by rw [e]; rfl)) (h p)

set_option maxHeartbeats 4000000 in
/-- A tile, given its shares of the operands and its block of the result, gives the shares back and the block at the sums. -/
theorem tile_body (hF : (K (F := F)).Facts) (O : CellTallies nD τ sig (HIx 1)) (W : Waits sig (HIx 1)) (hO : ∀ g, O g none = 0) :
    iprop(levAts (K (F := F)).L (K (F := F)).lev ∗ emp ∗ goPts m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__posenc_sc L xV (Memref.isWhole_whole _) eV (Memref.isWhole_whole _) oV (Memref.isWhole_whole _)
            sV (Memref.isWhole_whole _) bxV (Memref.isWhole_whole _) beV (Memref.isWhole_whole _) cc1_scratch3 cc1_scratch4 cc1_scoped0)
          fun _ => iprop(tdPts m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__posenc_sc_eq_skeleton]; unfold cc1__posenc_sc_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  iintro ⟨#Hlv, -, ⟨Hx, He, Ho⟩, ⟨⟨⟨%fs, Hs⟩, ⟨%fx, Hbx⟩, ⟨%fe, Hbe⟩⟩, Hbufs⟩, ⟨⟨Hc6, Hc7, Hc8, Hc9, Hc10, Hc11, Hc12, Hc13, Hc14, Hc15⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (show (oRowPts d (wL L) (m (oLoc d)) : sProp 𝕄) = (oRowK L).view.loc (V d (cV L) (jV L)) ↦[(oRowK L).view.set]{fullShare} m (oLoc d) by rw [set_oRowK])) $$ Ho
  ihave Hx' := (Entails.of_eq (show (xShPts m d (wL L) : sProp 𝕄) = ((xV).view.loc (V d (cV L) (jV L)) ↦{tq (wL L)} xBuf m d) from rfl)) $$ Hx
  ihave He' := (Entails.of_eq (show (eShPts m d (wL L) : sProp 𝕄) = ((eV).view.loc (V d (cV L) (jV L)) ↦{tq (wL L)} m (eLoc d)) from rfl)) $$ He
  ihave Hs' := (Entails.of_eq (show ((V d (cV L) (jV L)).loc cc1_scratch0 ↦{fullShare} fs : sProp 𝕄) = ((sV).view.loc (V d (cV L) (jV L)) ↦{fullShare} fs) from rfl)) $$ Hs
  ihave Hbx' := (Entails.of_eq (show ((V d (cV L) (jV L)).loc cc1_scratch1 ↦{fullShare} fx : sProp 𝕄) = ((bxV).view.loc (V d (cV L) (jV L)) ↦{fullShare} fx) from rfl)) $$ Hbx
  ihave Hbe' := (Entails.of_eq (show ((V d (cV L) (jV L)).loc cc1_scratch2 ↦{fullShare} fe : sProp 𝕄) = ((beV).view.loc (V d (cV L) (jV L)) ↦{fullShare} fe) from rfl)) $$ Hbe
  sl_exec
  have hin := offs_in (F := F) d L
  ihave Hs := (Entails.of_eq (show ((sV).view.loc (V d (cV L) (jV L)) ↦{fullShare}
      (sV).view.writes (Elt F) (sV).view.junk (tile_body.sl.Hs'_1 L) : sProp 𝕄) = ((sV).view.loc (V d (cV L) (jV L)) ↦{fullShare} iBuf d L) from
    congrArg (fun f => ((sV).view.loc (V d (cV L) (jV L)) ↦{fullShare} f : sProp 𝕄)) (list_stored d L _))) $$ Hs'
  ihave Hs := (Entails.of_eq (pointsTo_toks8 (F := F) (ℓ := (sV).view.loc (V d (cV L) (jV L))) fullShare (iBuf d L))) $$ Hs
  icases Hs with ⟨⟨Hs7, Hs8, Hs9, Hs10, Hs11, Hs12, Hs13, Hs14⟩, Hsr⟩
  ihave He := (Entails.of_eq (pointsTo_toks8 (F := F) (ℓ := (eV).view.loc (V d (cV L) (jV L))) (tq (wL L)) (m (eLoc d)))) $$ He'
  icases He with ⟨⟨He7, He8, He9, He10, He11, He12, He13, He14⟩, Her⟩
  sl_exec
  ihave Hbx := (Entails.of_eq (show ((bxV).view.loc (V d (cV L) (jV L)) ↦{fullShare}
      View.write (Elt F) (bxV).view fx (tile_body.sl.dma2 m d L) Finset.univ : sProp 𝕄)
        = bxPts d L (mix (fun i => xBuf m d (rowIx L i)) (fun i => m (eLoc d) (rowIx L i)) (1024 * 0)) from
    congrArg (bxPts d L) ((rows_copied d L (xBuf m d) fx _).trans (mix_zero _ _).symm))) $$ Hbx'
  ihave Hbe := (Entails.of_eq (show ((beV).view.loc (V d (cV L) (jV L)) ↦{fullShare}
      (beV).view.writes (Elt F) (beV).view.junk
      [⟨Rect.unit ![0, 896] S16x128.size (col_in 896 (of_decide_eq_true rfl)), tile_body.sl.gather7 m d L hin⟩,
        ⟨Rect.unit ![0, 768] S16x128.size (col_in 768 (of_decide_eq_true rfl)), tile_body.sl.gather6 m d L hin⟩,
        ⟨Rect.unit ![0, 640] S16x128.size (col_in 640 (of_decide_eq_true rfl)), tile_body.sl.gather5 m d L hin⟩,
        ⟨Rect.unit ![0, 512] S16x128.size (col_in 512 (of_decide_eq_true rfl)), tile_body.sl.gather4 m d L hin⟩,
        ⟨Rect.unit ![0, 384] S16x128.size (col_in 384 (of_decide_eq_true rfl)), tile_body.sl.gather3 m d L hin⟩,
        ⟨Rect.unit ![0, 256] S16x128.size (col_in 256 (of_decide_eq_true rfl)), tile_body.sl.gather2 m d L hin⟩,
        ⟨Rect.unit ![0, 128] S16x128.size inb_S16x1024_S16x128_0_128, tile_body.sl.gather1 m d L hin⟩,
        ⟨Rect.unit ![0, 0] S16x128.size inb_S16x1024_S16x128_0_0, tile_body.sl.gather0 m d L hin⟩] : sProp 𝕄)
        = bePts d L (fun i => m (eLoc d) (rowIx L i)) from
    congrArg (bePts d L) (rows_gathered d L (m (eLoc d)) (beV).view.junk hin
      [⟨896, of_decide_eq_true rfl⟩, ⟨768, of_decide_eq_true rfl⟩, ⟨640, of_decide_eq_true rfl⟩, ⟨512, of_decide_eq_true rfl⟩,
        ⟨384, of_decide_eq_true rfl⟩, ⟨256, of_decide_eq_true rfl⟩, ⟨128, of_decide_eq_true rfl⟩, ⟨0, of_decide_eq_true rfl⟩] (by decide)))) $$ Hbe'
  sl_for (fun (k : ℕ) (_ : Unit) => iprop(bxPts d L (mix (fun i => xBuf m d (rowIx L i)) (fun i => m (eLoc d) (rowIx L i)) (1024 * k))
      ∗ bePts d L (fun i => m (eLoc d) (rowIx L i)))) $$ [Hbx Hbe]
  · intro t1 _
    exact trip1 d L _ _ t1
  · isplitl [Hbx] <;> iassumption
  iintro %acc H
  icases H with ⟨Hbx, Hbe⟩
  sl_exec
  ihave Ho := (Entails.of_eq (show ((oRowK L).view.loc (V d (cV L) (jV L)) ↦[(oRowK L).view.set]{fullShare}
      (oRowK L).view.writes (Elt F) (m (oLoc d)) [⟨Rect.whole S16x1024, tile_body.sl.dma0 m d L⟩] : sProp 𝕄)
        = oRowPts d (wL L) (scOut (xBuf m d) (m (eLoc d))) from by
    refine (pointsTo_congr ?_).trans (show ((oRowK L).view.loc (V d (cV L) (jV L)) ↦[(oRowK L).view.set]{fullShare} scOut (xBuf m d) (m (eLoc d)) : sProp 𝕄) = _ by
      rw [set_oRowK])
    rw [show tile_body.sl.dma0 m d L = fun j => FloatOps.addf (φ := .f32) (xBuf m d (rowIx L j)) (m (eLoc d) (rowIx L j)) from
      mix_all (fun i => xBuf m d (rowIx L i)) (fun i => m (eLoc d) (rowIx L i))]
    exact block_written L (xBuf m d) (m (eLoc d)) (m (oLoc d)))) $$ Ho'
  ihave Hs := (Entails.of_eq (pointsTo_toks8 (F := F) (ℓ := (sV).view.loc (V d (cV L) (jV L))) fullShare (iBuf d L)).symm) $$ [Hs7 Hs8 Hs9 Hs10 Hs11 Hs12 Hs13 Hs14 Hsr]
  · isplitl [Hs7 Hs8 Hs9 Hs10 Hs11 Hs12 Hs13 Hs14]
    · isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13] <;> iassumption
    · iexact Hsr
  ihave He := (Entails.of_eq (pointsTo_toks8 (F := F) (ℓ := (eV).view.loc (V d (cV L) (jV L))) (tq (wL L)) (m (eLoc d))).symm) $$ [He7 He8 He9 He10 He11 He12 He13 He14 Her]
  · isplitl [He7 He8 He9 He10 He11 He12 He13 He14]
    · isplitl [He7]; · iexact He7
      isplitl [He8]; · iexact He8
      isplitl [He9]; · iexact He9
      isplitl [He10]; · iexact He10
      isplitl [He11]; · iexact He11
      isplitl [He12]; · iexact He12
      isplitl [He13] <;> iassumption
    · iexact Her
  sl_step
  isplitl [Hx' He Ho]
  · isplitl [Hx']; · iexact Hx'
    isplitl [He]; · iexact He
    iexact Ho
  isplitl [Hs Hbx Hbe Hbufs]
  · isplitl [Hs Hbx Hbe]
    · isplitl [Hs]; · iexists _; iexact Hs
      isplitl [Hbx]; · iexists _; iexact Hbx
      iexists _; iexact Hbe
    · iexact Hbufs
  isplitl [Hc6 Hc7 Hc8 Hc9 Hc10 Hc11 Hc12 Hc13 Hc14 Hc15 Hsems]
  · isplitl [Hc6 Hc7 Hc8 Hc9 Hc10 Hc11 Hc12 Hc13 Hc14 Hc15]
    · isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      iexact Hc15
    · iexact Hsems
  iexists _
  isplitr [HO]; rotate_left
  · iexact HO
  ipureintro
  exact waits_new _ _ (waits_new _ _ (waits_new _ _ (waits_new _ _ (waits_new _ _ (waits_new _ _ (waits_new _ _ (waits_new _ _ (waits_new _ _
    (waits_new _ _ fun _ h => Or.inl h)))))))))

/-! ## The obligation -/

/-- The coordinates of the tile at core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- At the SparseCore call's label a tile runs the kernel's body at its own coordinates. -/
theorem defs₀_vector (c : Fin τ.nSC) (s : Fin τ.nSub) :
    defs₀ (F := F) (.scVector c s) 1 ()
      = SparseCore.onTile hcore1 hsub1 (fun c s => cc1__posenc_sc (coordsV c s)
          xV (Memref.isWhole_whole _) eV (Memref.isWhole_whole _) oV (Memref.isWhole_whole _)
          sV (Memref.isWhole_whole _) bxV (Memref.isWhole_whole _) beV (Memref.isWhole_whole _) cc1_scratch3 cc1_scratch4 cc1_scoped0) ⟨⟩ c s := rfl

/-- The waits a tile adds are among those the launch allows it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of a tile. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := tile_body m d (coordsV ⟨_, hci.1⟩ ⟨_, hci.2⟩) hF O W hO
  exact hb.trans (wp_mono frame _ _ fun _ => obl_post)

end Cert.Proof.PosEnc

end
-- ==== Proof.Main.lean ====
/-
  @main of `KernelIdeal`, at any float values `F`: the reshape, the TensorCore call (Region.lean), the SparseCore call
  (Tile.lean) and the operations that lay the second call's 512 rows over the last 512 rows of the first's. At the end the
  result holds the sum of the two arguments, element by element, and the arguments are as they were.
-/
module

public import proofs.«01_k».proof.Proof.Region
public import proofs.«01_k».proof.Proof.Tile

@[expose] public section

noncomputable section

namespace Cert.Proof.PosEnc

open Cert.KernelIdeal Cert.KernelIdeal.Gen

open Idealize.ShloMosaic
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the certificate's ghost state -/

/-- The staging rounds' algebra inside the certificate's. -/
def EP : Emb UP (MT nD τ sig (HIx 1) (Elt F) ℕ UU ℕ) := (Emb.inl : Emb UP (UP × Counters)).trans embR

/-- The staging rounds' part of the ghost state lies in the ghost state. -/
instance EP_landsIn : (EP (F := F)).LandsIn (upEmb : UEmb _ 𝕄) := by unfold EP; infer_instance

/-- The TensorCore call's pipeline with its (absent) table read. -/
abbrev pins := Pipeline.pin (pcfgs (F := F)) adm

/-- The handshakes' cells and tokens, the staging cells' and tokens, and the transfers' counters at nothing. -/
def u₀ : UU := (initOf (K (F := F)).hsCells (K (F := F)).hsToks,
  (initOf (Pipeline.cells (pins (F := F)) cellOf_inj) (Pipeline.launchToks (pins (F := F)) cellOf_inj), 1))

/-- What the launch gives each TensorCore for its pipeline. -/
def ghostOf (d : Dev nD) : sProp 𝕄 :=
  iprop(Pipeline.cellsGhost (pins (F := F)) EP 0 d ∗ Pipeline.toksInit (pins (F := F)) EP 0 d)

/-- The launch element splits into what the launch theorem asks for. -/
theorem hu₀ : (ownU (u₀ (F := F)) : sProp 𝕄)
    ⊢ |={Set.univ}=> iprop(BI.own (EH (initOf (K (F := F)).hsCells (K (F := F)).hsToks)) ∗ (bigSep Finset.univ (ghostOf (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) cellOf_inj) (Pipeline.launchToks (pins (F := F)) cellOf_inj), 1) : UP × Counters)) $$ Hu
  icases H with ⟨HH, HR⟩
  ihave H := (show _ ⊢ iprop(BI.own (EP (initOf (Pipeline.cells (pins (F := F)) cellOf_inj) (Pipeline.launchToks (pins (F := F)) cellOf_inj))) ∗ _) from
    own_pair_emb (embR : Emb (UP × Counters) 𝕄) _ (1 : Counters)) $$ HR
  icases H with ⟨HP, -⟩
  imod (Pipeline.fund_ghost (pins (F := F)) EP cellOf_inj) $$ HP with HG
  icases HG with ⟨Hc, Ht⟩
  imodintro
  isplitl [HH]; · iexact HH
  isplitl [Hc Ht]
  · unfold ghostOf
    rw [bigSep_sep']
    isplitl [Hc]
    · rw [bigSep_congr fun (d : Dev nD) _ => (bigSep_univ_of_subsingleton (Φ := fun p => Pipeline.cellsGhost (pins (F := F)) EP p d) (0 : Fin 1)).symm]
      iexact Hc
    · rw [bigSep_congr fun (d : Dev nD) _ => (bigSep_univ_of_subsingleton (Φ := fun p => Pipeline.toksInit (pins (F := F)) EP p d) (0 : Fin 1)).symm]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## The operations of @main, and the contents they leave -/

abbrev opIn : HloOp τ sig (Elt F) := StableHlo.reshape main_arg0 main_v0 rfl shapeCasts_S1x8192x1024_S8192x1024
abbrev opRow : HloOp τ sig (Elt F) := StableHlo.nullary main_c (constantI S_ 32 7680#32)
abbrev opCol : HloOp τ sig (Elt F) := StableHlo.nullary main_c_0 (constantI S_ 32 0#32)
abbrev opLay : HloOp τ sig (Elt F) := StableHlo.binaryIndexed main_v1 main_v2 ![main_c, main_c_0] ⟨S_, .i32⟩ main_v3
  ((fun x u i => Host.dynamicUpdateSlice x u (fun k => (i k (Shape.Idx.first h_S_)).toInt) updateFits_S8192x1024_S512x1024) :
    (⟨S8192x1024, .f32⟩ : BufTy).Contents (Elt F) → (⟨S512x1024, .f32⟩ : BufTy).Contents (Elt F) → (Fin 2 → (⟨S_, .i32⟩ : BufTy).Contents (Elt F)) → (⟨S8192x1024, .f32⟩ : BufTy).Contents (Elt F))
abbrev opOut : HloOp τ sig (Elt F) := StableHlo.reshape main_v3 main_v4 rfl shapeCasts_S8192x1024_S1x8192x1024

/-- A reference of the TensorCore's as the machine names it. -/
abbrev nm (b : Ref sig .tc) : DevRef τ sig := Proc.devRef .tc b

/-- The arrays of @main. -/
abbrev arrs : Finset (DevRef τ sig) :=
  {nm main_arg0, nm main_arg1, nm main_v0, nm main_v1, nm main_v2, nm main_c, nm main_c_0, nm main_v3, nm main_v4}

/-- The contents at launch; before the TensorCore call; after it; after the SparseCore call; at the end. -/
def W0 (d : Dev nD) : Valuation τ sig (Elt F) := fun b => m (d, b)
def W1 (d : Dev nD) : Valuation τ sig (Elt F) := (opIn (F := F)).result (W0 m d)
def W2 (d : Dev nD) : Valuation τ sig (Elt F) :=
  Function.update (W1 m d) (nm main_v1) (tcOut (xBuf m d) (m (eLoc d)) (W1 m d (nm main_v1)))
def W3 (d : Dev nD) : Valuation τ sig (Elt F) := Function.update (W2 m d) (nm main_v2) (scOut (xBuf m d) (m (eLoc d)))
def W4 (d : Dev nD) : Valuation τ sig (Elt F) := (opRow (F := F)).result (W3 m d)
def W5 (d : Dev nD) : Valuation τ sig (Elt F) := (opCol (F := F)).result (W4 m d)
def W6 (d : Dev nD) : Valuation τ sig (Elt F) := (opLay (F := F)).result (W5 m d)
def W7 (d : Dev nD) : Valuation τ sig (Elt F) := (opOut (F := F)).result (W6 m d)

/-- The arrays of @main held whole, one by one. -/
theorem held_arrs (d : Dev nD) (W : Valuation τ sig (Elt F)) :
    (held (SparseCore.T d) arrs W : sProp 𝕄)
      = iprop((aLoc d ↦{fullShare} W (nm main_arg0)) ∗ (eLoc d ↦{fullShare} W (nm main_arg1)) ∗ (xLoc d ↦{fullShare} W (nm main_v0))
          ∗ ((SparseCore.T d).loc main_v1 ↦{fullShare} W (nm main_v1)) ∗ (oLoc d ↦{fullShare} W (nm main_v2)) ∗ ((SparseCore.T d).loc main_c ↦{fullShare} W (nm main_c))
          ∗ ((SparseCore.T d).loc main_c_0 ↦{fullShare} W (nm main_c_0)) ∗ ((SparseCore.T d).loc main_v3 ↦{fullShare} W (nm main_v3)) ∗ (SparseCore.T d).loc main_v4 ↦{fullShare} W (nm main_v4)) := by
  unfold held arrs
  iterate 8 rw [SparseCore.bigSep_insert' (by decide)]
  rw [bigSep_singleton]

/-- They are the TensorCore's unscoped arrays. -/
theorem unscoped_arrs (d : Dev nD) (W : Valuation τ sig (Elt F)) :
    (unscopedBufs d (fun b => W (nm b)) : sProp 𝕄) = held (SparseCore.T d) arrs W := by
  rw [held_arrs]
  unfold unscopedBufs
  rw [show (Finset.univ.filter fun b : Ref sig .tc => ¬ b.isScoped)
      = {main_arg0, main_arg1, main_v0, main_v1, main_v2, main_c, main_c_0, main_v3, main_v4} by decide]
  iterate 8 rw [SparseCore.bigSep_insert' (by decide)]
  rw [bigSep_singleton]

/-- The first step leaves the first argument as a matrix, -/
theorem W1_x (d : Dev nD) : W1 m d (nm main_v0) = xBuf m d := by
  unfold W1; rw [StableHlo.reshape_result']; rfl
/-- and everything else as it was. -/
theorem W1_ne (d : Dev nD) (b : DevRef τ sig) (h : b ≠ nm main_v0) : W1 m d b = m (d, b) := by
  unfold W1; exact (opIn (F := F)).result_of_not_mem _ (fun hb => h (Finset.mem_singleton.mp hb))

/-- The contents after the TensorCore call are the region's. -/
theorem W2_eq (d : Dev nD) (b : Ref sig .tc) : Vp (fun c b => W1 m c (nm b)) d b = W2 m d (nm b) := by
  by_cases h : b = main_v1
  · subst h
    rw [Vp_out, W2, Function.update_self, W1_x, W1_ne m d (nm main_arg1) (by decide)]
  · rw [Vp_ne _ _ _ h, W2, Function.update_of_ne (fun e => h (Proc.devRef_injective _ e))]

/-- The TensorCore call changes its result alone, -/
theorem W2_ne (d : Dev nD) (b : DevRef τ sig) (h : b ≠ nm main_v1) : W2 m d b = W1 m d b := Function.update_of_ne h _ _
/-- and so does the SparseCore call. -/
theorem W3_ne (d : Dev nD) (b : DevRef τ sig) (h : b ≠ nm main_v2) : W3 m d b = W2 m d b := Function.update_of_ne h _ _

/-! ## The SparseCore call's operands dealt to the tiles -/

omit [FloatOps F] in
/-- The 32 blocks of rows are apart, and are all of the array. -/
theorem oPts_rows (d : Dev nD) (f : Buf (Elt F) (oLoc d)) :
    (oLoc d ↦{fullShare} f : sProp 𝕄) = bigSep Finset.univ fun w : Fin 32 => oRowPts d w f := by
  unfold oRowPts
  rw [← pointsTo_biUnion Finset.univ (ℓ := oLoc d) oRowSet (fun _ _ _ _ h => Rect.part_disjoint odiv h), Rect.biUnion_part odiv]

omit [FloatOps F] in
/-- A family over the 32 blocks, taken core by core and subcore by subcore. -/
theorem bigSep_wid (Φ : Fin 32 → sProp 𝕄) :
    bigSep Finset.univ Φ = bigSep Finset.univ fun c : Fin 2 => bigSep Finset.univ fun s : Fin 16 => Φ (widOf c s) := by
  rw [bigSep_univ_equiv ((Equiv.prodComm (Fin 2) (Fin 16)).trans finProdFinEquiv), bigSep_univ_prod]
  refine bigSep_congr fun c _ => bigSep_congr fun s _ => congrArg Φ (Fin.ext ?_)
  show c.val + 2 * s.val = s.val * 2 + c.val
  omega

/-- The operands' full shares and the whole result, as what stays behind and what the 32 tiles take between them. -/
theorem deal (d : Dev nD) (f : Buf (Elt F) (oLoc d)) :
    iprop((xLoc d ↦{fullShare} xBuf m d) ∗ (eLoc d ↦{fullShare} m (eLoc d)) ∗ (oLoc d ↦{fullShare} f))
      ⊣⊢ (iprop(((xLoc d ↦{Transfers.shareDrop fullShare 32} xBuf m d) ∗ (eLoc d ↦{Transfers.shareDrop fullShare 32} m (eLoc d)))
          ∗ bigSep Finset.univ fun c : Fin 2 => bigSep Finset.univ fun s : Fin 16 =>
              iprop(xShPts m d (widOf c s) ∗ eShPts m d (widOf c s) ∗ oRowPts d (widOf c s) f)) : sProp 𝕄) := by
  rw [← bigSep_wid (fun w => iprop(xShPts m d w ∗ eShPts m d w ∗ oRowPts d w f)), bigSep_sep', bigSep_sep', oPts_rows]
  have hx := Transfers.pointsTo_toks (Ix := HIx 1) (Name := ℕ) (U := UU) (Lvl := ℕ) (ℓ := xLoc d) (S := Finset.univ) (f := xBuf m d) fullShare 32
  have he := Transfers.pointsTo_toks (Ix := HIx 1) (Name := ℕ) (U := UU) (Lvl := ℕ) (ℓ := eLoc d) (S := Finset.univ) (f := m (eLoc d)) fullShare 32
  constructor
  · iintro ⟨Hx, He, Ho⟩
    ihave Hx := hx.1 $$ Hx
    ihave He := he.1 $$ He
    icases Hx with ⟨Hxd, Hx⟩
    icases He with ⟨Hed, He⟩
    isplitl [Hxd Hed]; · isplitl [Hxd] <;> iassumption
    isplitl [Hx]; · iexact Hx
    isplitl [He]; · iexact He
    iexact Ho
  · iintro ⟨⟨Hxd, Hed⟩, Hx, He, Ho⟩
    isplitl [Hxd Hx]
    · iapply hx.2; isplitl [Hxd] <;> iassumption
    isplitl [Hed He]
    · iapply he.2; isplitl [Hed] <;> iassumption
    iexact Ho

/-! ## What @main computes -/

/-- The program's result. -/
abbrev rLoc (d : Dev nD) : Loc nD τ sig := (SparseCore.T d).loc main_v4

/-- The sum of the arguments, element by element: what @main returns. -/
def total (d : Dev nD) : Buf (Elt F) (rLoc d) := fun i : S1x8192x1024.Idx =>
  FloatOps.addf (φ := .f32) (m (aLoc d) i) (m (eLoc d) (fun a => i a.succ))

/-- Laying rows 7680 onward of a sum over an array that holds the rest of it makes the whole sum. -/
theorem lay_sum (x e o : S8192x1024.Idx → Elt F .f32) (start : Fin 2 → Int) (h0 : start 0 = 7680) (h1 : start 1 = 0)
    (h : S8192x1024.Slices (fun _ => 0) S512x1024) :
    Host.dynamicUpdateSlice (tcOut x e o) (scOut x e) start h = fun i => FloatOps.addf (φ := .f32) (x i) (e i) := by
  rw [Host.dynamicUpdateSlice_eq_updateSlice _ _ start h ![7680, 0]
    (fun a => by
      fin_cases a
      · show (min (max (start 0) 0) ((8192 - 512 : Nat) : Int)).toNat = 7680
        rw [h0]; rfl
      · show (min (max (start 1) 0) ((1024 - 1024 : Nat) : Int)).toNat = 0
        rw [h1]; rfl) ⟨rfl, by decide⟩]
  funext i
  unfold updateSlice
  have hi0 : (i 0).val < 8192 := (i 0).isLt
  have hi1 : (i 1).val < 1024 := (i 1).isLt
  split
  next hin =>
    have h0 := hin 0
    unfold scOut
    have hr : ∀ j : S512x1024.Idx, (j 0).val = (i 0).val - 7680 → (j 1).val = (i 1).val → rowAt j = i := by
      intro j hj0 hj1
      funext a
      fin_cases a
      · refine Fin.ext ?_
        show 7680 + (j 0).val = (i 0).val
        have : 7680 ≤ (i 0).val := h0.1
        omega
      · exact Fin.ext hj1
    rw [hr]
    · rfl
    · rfl
  next hout =>
    unfold tcOut
    rw [if_pos]
    by_contra hlt
    refine hout fun a => ?_
    fin_cases a
    · show 7680 ≤ (i 0).val ∧ (i 0).val < 7680 + 512
      omega
    · show 0 ≤ (i 1).val ∧ (i 1).val < 0 + 1024
      omega

/-- An array no operation after the SparseCore call writes holds at the end what it held after that call. -/
theorem W7_ne (d : Dev nD) (b : DevRef τ sig) (hr : b ≠ nm main_c) (hc : b ≠ nm main_c_0) (hl : b ≠ nm main_v3) (ho : b ≠ nm main_v4) :
    W7 m d b = W3 m d b := by
  unfold W7 W6 W5 W4
  rw [(opOut (F := F)).result_of_not_mem _ (fun h => ho (Finset.mem_singleton.mp h)),
    (opLay (F := F)).result_of_not_mem _ (fun h => hl (Finset.mem_singleton.mp h)),
    (opCol (F := F)).result_of_not_mem _ (fun h => hc (Finset.mem_singleton.mp h)),
    (opRow (F := F)).result_of_not_mem _ (fun h => hr (Finset.mem_singleton.mp h))]

/-- No step changes the first argument, -/
theorem W7_a (d : Dev nD) : W7 m d (nm main_arg0) = m (aLoc d) := by
  rw [W7_ne _ _ _ (by decide) (by decide) (by decide) (by decide), W3_ne _ _ _ (by decide), W2_ne _ _ _ (by decide), W1_ne _ _ _ (by decide)]
/-- nor the second. -/
theorem W7_e (d : Dev nD) : W7 m d (nm main_arg1) = m (eLoc d) := by
  rw [W7_ne _ _ _ (by decide) (by decide) (by decide) (by decide), W3_ne _ _ _ (by decide), W2_ne _ _ _ (by decide), W1_ne _ _ _ (by decide)]

/-- The row the second call's result is laid in at is 7680, -/
theorem W5_row (d : Dev nD) : W5 m d (nm main_c) = constantI S_ 32 7680#32 := by
  unfold W5 W4
  rw [(opCol (F := F)).result_of_not_mem _ (fun h => absurd (Finset.mem_singleton.mp h) (by decide)), StableHlo.nullary_result']
/-- the column 0, -/
theorem W5_col (d : Dev nD) : W5 m d (nm main_c_0) = constantI S_ 32 0#32 := by
  unfold W5
  rw [StableHlo.nullary_result']
/-- and naming the two changes nothing else. -/
theorem W5_ne (d : Dev nD) (b : DevRef τ sig) (hr : b ≠ nm main_c) (hc : b ≠ nm main_c_0) : W5 m d b = W3 m d b := by
  unfold W5 W4
  rw [(opCol (F := F)).result_of_not_mem _ (fun h => hc (Finset.mem_singleton.mp h)),
    (opRow (F := F)).result_of_not_mem _ (fun h => hr (Finset.mem_singleton.mp h))]

/-- What the update lays down is the whole sum, in the shape of a matrix. -/
theorem W6_sum (d : Dev nD) : W6 m d (nm main_v3) = fun i : S8192x1024.Idx => FloatOps.addf (φ := .f32) (xBuf m d i) (m (eLoc d) i) := by
  unfold W6
  rw [StableHlo.binaryIndexed_result_read, StableHlo.indexContents_cons, StableHlo.indexContents_cons, W5_row, W5_col,
    W5_ne _ _ (nm main_v1) (by decide) (by decide), W5_ne _ _ (nm main_v2) (by decide) (by decide), W3_ne _ _ (nm main_v1) (by decide)]
  unfold W3 W2
  rw [Function.update_self, Function.update_self]
  exact lay_sum _ _ _ _ rfl rfl _

/-- The result at the end is the sum of the arguments. -/
theorem W7_r (d : Dev nD) : W7 m d (nm main_v4) = total m d := by
  unfold W7
  rw [StableHlo.reshape_result', W6_sum]
  funext i
  refine (shapeCast_addUnit_apply ![8192, 1024] _ _ i).trans ?_
  unfold total xBuf
  congr 1
  refine (shapeCast_dropUnit_apply ![8192, 1024] _ _ _).trans (congrArg (m (aLoc d)) ?_)
  funext a
  have h0 : (i 0).val < 1 := (i 0).isLt
  refine Fin.cases (Fin.ext ?_) (fun b => rfl) a
  show 0 = (i 0).val
  omega

/-! ## @main's run -/

/-- What the SparseCore call takes is what the tiles of its two SparseCores take, -/
theorem st0_eq (d : Dev nD) : (bigSep Finset.univ fun c : Fin ((K (F := F)).nCore 0) => (P m).st 0 d c)
    = bigSep Finset.univ fun c : Fin 2 => bigSep Finset.univ fun s : Fin 16 => goPts m d (widOf c s) := rfl
/-- and what it hands back is what they hand back. -/
theorem dn0_eq (d : Dev nD) : (bigSep Finset.univ fun c : Fin ((K (F := F)).nCore 0) => (P m).dn 0 d c)
    = bigSep Finset.univ fun c : Fin 2 => bigSep Finset.univ fun s : Fin 16 => tdPts m d (widOf c s) := rfl

/-- What @main leaves the claims: the arguments as they were, the result at their sum. -/
abbrev FIN (d : Dev nD) : sProp 𝕄 :=
  iprop((aLoc d ↦{fullShare} m (aLoc d)) ∗ (eLoc d ↦{fullShare} m (eLoc d)) ∗ (rLoc d ↦{fullShare} total m d))

/-- The TensorCore's buffers at launch are the program's arrays at the launch contents. -/
theorem unscoped_launch (d : Dev nD) : (unscopedBufs d (fun b => m ((SparseCore.T d).loc b)) : sProp 𝕄) = held (SparseCore.T d) arrs (W0 m d) :=
  unscoped_arrs d (W0 m d)

/-- The TensorCore call, as the program without the SparseCore calls has it; -/
def rgn : Prog (TpuEff nD τ sig (Elt F) (ΛP (F := F)) .tc) PUnit := .op (.customCall (Pipeline.entry 0) ()) .ret

/-- lifted, it is the call of @main. -/
theorem rgn_lift : SparseCore.liftProg (Q := 1) (rgn (F := F)) = Prog.lift (.customCall (SparseCore.inner (Pipeline.entry 0)) ()) := by
  unfold rgn Prog.lift
  rw [SparseCore.liftProg_op]
  rfl

/-- The TensorCore call, from the boundary and the arrays at `W1`: the arrays at `W2` after it. -/
theorem wp_region (d : Dev nD) (Q : PUnit → sProp 𝕄) :
    iprop((boundary (SparseCore.T d) ∗ held (SparseCore.T d) arrs (W2 m d) ∗ owesTC (F := F) d -∗ Q ⟨⟩)
        ∗ boundary (SparseCore.T d) ∗ (held (SparseCore.T d) arrs (W1 m d) ∗ owesTC (F := F) d) ∗ levAts (K (F := F)).L (K (F := F)).lev ∗ ghostOf (F := F) d)
      ⊢ wp frame (wpE ((K (F := F)).defs (D (F := F))) 𝒱 (SparseCore.T d) none) Set.univ
          (Prog.lift (.customCall (SparseCore.inner (Pipeline.entry 0)) ())) Q := by
  have hpost : (unscopedBufs d (Vp (fun c b => W1 m c (nm b)) d) : sProp 𝕄) = held (SparseCore.T d) arrs (W2 m d) :=
    (congrArg (unscopedBufs d) (funext (W2_eq m d))).trans (unscoped_arrs d (W2 m d))
  have hreg := Pipeline.RegionSeg.wp (pcfgs (F := F)) adm (pdats (fun c b => W1 m c (nm b))) none cellOf_inj EP (defs₀ (F := F)) 𝒱₀
    (K (F := F)).L (K (F := F)).lev (reg (fun c b => W1 m c (nm b))) d none (fun _ h => nomatch h) (fun _ => .ret ⟨⟩) Q
  rw [← rgn_lift]
  refine BIBase.Entails.trans ?_ ((K (F := F)).wp_liftProg (D (F := F)) 𝒱 (SparseCore.T d) Set.univ none rgn Q)
  unfold rgn
  refine BIBase.Entails.trans ?_ hreg
  rw [show (reg (fun c b => W1 m c (nm b))).pre d = iprop(unscopedBufs d (fun b => W1 m d (nm b)) ∗ owesTC (F := F) d) from rfl,
    show (reg (fun c b => W1 m c (nm b))).post d = iprop(unscopedBufs d (Vp (fun c b => W1 m c (nm b)) d) ∗ owesTC (F := F) d) from rfl,
    hpost, unscoped_arrs, wp_ret]
  unfold ghostOf
  iintro ⟨HQ, Hb, Hpre, Hlev, Hc, Ht⟩
  isplitl [HQ]
  · iintro ⟨Hb, Hh, HO⟩
    imodintro
    iapply HQ
    isplitl [Hb]; · iexact Hb
    isplitl [Hh]; · iexact Hh
    iexact HO
  isplitl [Hb]; · iexact Hb
  isplitl [Hpre]; · iexact Hpre
  isplitl [Hlev]; · iexact Hlev
  isplitl [Hc]; · iexact Hc
  iexact Ht

/-- Recorded waits within a bound of zero are all on the kernels' own index. -/
theorem recorded_none (d : Dev nD) (W : Waits sig (HIx 1)) (h : (K (F := F)).WBelow (SparseCore.T d) W (8 * 0)) : ↑W ⊆ {p : SemLoc sig × HIx 1 | p.2 = none} := by
  rintro ⟨s, ι⟩ hp
  cases ι with
  | none => rfl
  | some q => exact absurd (h _ hp) (Nat.not_le.mpr ((K (F := F)).lev_some_pos _ q))
/-- A set of waits none of which belongs to a call lies below every call's. -/
theorem below_none (d : Dev nD) (W : Waits sig (HIx 1)) (h : ↑W ⊆ {p : SemLoc sig × HIx 1 | p.2 = none}) : (K (F := F)).WBelow (SparseCore.T d) W (8 * 0) := by
  rintro ⟨s, ι⟩ hp
  obtain rfl : ι = none := h hp
  exact Nat.le_refl 0

/-- What the TensorCore owes before the SparseCore call, taken out of its protocol state and put back. -/
theorem tcSt_owes (d : Dev nD) : ∃ R : sProp 𝕄, (K (F := F)).tcSt EH d 0 ⊣⊢ iprop(owesTC (F := F) d ∗ R) := by
  unfold SparseCore.Cfg.tcSt owesTC
  have swap : ∀ R : sProp 𝕄,
      iprop((∃ W, ⌜(K (F := F)).WBelow (SparseCore.T d) W (8 * 0)⌝ ∗ owes (SparseCore.T d) ((K (F := F)).Otc d 0) W) ∗ R)
        ⊣⊢ iprop((∃ W, ⌜↑W ⊆ {p : SemLoc sig × HIx 1 | p.2 = none}⌝ ∗ owes d.tc ((K (F := F)).Otc d 0) W) ∗ R) := fun R => by
    constructor
    · iintro ⟨⟨%W, %hW, HO⟩, HR⟩
      isplitl [HO]
      · iexists W; isplitr; · ipureintro; exact recorded_none d W hW
        iexact HO
      iexact HR
    · iintro ⟨⟨%W, %hW, HO⟩, HR⟩
      isplitl [HO]
      · iexists W; isplitr; · ipureintro; exact below_none d W hW
        iexact HO
      iexact HR
  exact ⟨_, swap _⟩

/-- The arrays before the SparseCore call, its operands by their contents; and after it. -/
theorem held_W2 (d : Dev nD) : (held (SparseCore.T d) arrs (W2 m d) : sProp 𝕄)
    = iprop((aLoc d ↦{fullShare} W2 m d (nm main_arg0)) ∗ (eLoc d ↦{fullShare} m (eLoc d)) ∗ (xLoc d ↦{fullShare} xBuf m d)
        ∗ ((SparseCore.T d).loc main_v1 ↦{fullShare} W2 m d (nm main_v1)) ∗ (oLoc d ↦{fullShare} m (oLoc d)) ∗ ((SparseCore.T d).loc main_c ↦{fullShare} W2 m d (nm main_c))
        ∗ ((SparseCore.T d).loc main_c_0 ↦{fullShare} W2 m d (nm main_c_0)) ∗ ((SparseCore.T d).loc main_v3 ↦{fullShare} W2 m d (nm main_v3))
        ∗ (SparseCore.T d).loc main_v4 ↦{fullShare} W2 m d (nm main_v4)) := by
  rw [held_arrs, W2_ne m d (nm main_arg1) (by decide), W1_ne m d (nm main_arg1) (by decide), W2_ne m d (nm main_v0) (by decide), W1_x,
    W2_ne m d (nm main_v2) (by decide), W1_ne m d (nm main_v2) (by decide)]
/-- The arrays after the SparseCore call, its result at the sums. -/
theorem held_W3 (d : Dev nD) : (held (SparseCore.T d) arrs (W3 m d) : sProp 𝕄)
    = iprop((aLoc d ↦{fullShare} W2 m d (nm main_arg0)) ∗ (eLoc d ↦{fullShare} m (eLoc d)) ∗ (xLoc d ↦{fullShare} xBuf m d)
        ∗ ((SparseCore.T d).loc main_v1 ↦{fullShare} W2 m d (nm main_v1)) ∗ (oLoc d ↦{fullShare} scOut (xBuf m d) (m (eLoc d))) ∗ ((SparseCore.T d).loc main_c ↦{fullShare} W2 m d (nm main_c))
        ∗ ((SparseCore.T d).loc main_c_0 ↦{fullShare} W2 m d (nm main_c_0)) ∗ ((SparseCore.T d).loc main_v3 ↦{fullShare} W2 m d (nm main_v3))
        ∗ (SparseCore.T d).loc main_v4 ↦{fullShare} W2 m d (nm main_v4)) := by
  rw [held_arrs, W3_ne m d (nm main_arg1) (by decide), W2_ne m d (nm main_arg1) (by decide), W1_ne m d (nm main_arg1) (by decide),
    W3_ne m d (nm main_v0) (by decide), W2_ne m d (nm main_v0) (by decide), W1_x,
    W3_ne m d (nm main_arg0) (by decide), W3_ne m d (nm main_v1) (by decide), W3_ne m d (nm main_c) (by decide), W3_ne m d (nm main_c_0) (by decide),
    W3_ne m d (nm main_v3) (by decide), W3_ne m d (nm main_v4) (by decide), show W3 m d (nm main_v2) = scOut (xBuf m d) (m (eLoc d)) from Function.update_self _ _ _]
/-- The arguments and the result at the end. -/
theorem held_W7 (d : Dev nD) : (held (SparseCore.T d) arrs (W7 m d) : sProp 𝕄)
    = iprop((aLoc d ↦{fullShare} m (aLoc d)) ∗ (eLoc d ↦{fullShare} m (eLoc d)) ∗ (xLoc d ↦{fullShare} W7 m d (nm main_v0))
        ∗ ((SparseCore.T d).loc main_v1 ↦{fullShare} W7 m d (nm main_v1)) ∗ (oLoc d ↦{fullShare} W7 m d (nm main_v2)) ∗ ((SparseCore.T d).loc main_c ↦{fullShare} W7 m d (nm main_c))
        ∗ ((SparseCore.T d).loc main_c_0 ↦{fullShare} W7 m d (nm main_c_0)) ∗ ((SparseCore.T d).loc main_v3 ↦{fullShare} W7 m d (nm main_v3))
        ∗ (rLoc d ↦{fullShare} total m d)) := by
  rw [held_arrs, W7_a, W7_e, W7_r]

/-- Every host step reads and writes the program's arrays only. -/
theorem arrs_in : (opIn (F := F)).bufs ⊆ arrs := show ({nm main_arg0, nm main_v0} : Finset (DevRef τ sig)) ⊆ arrs by decide
theorem arrs_row : (opRow (F := F)).bufs ⊆ arrs := show ({nm main_c} : Finset (DevRef τ sig)) ⊆ arrs by decide
theorem arrs_col : (opCol (F := F)).bufs ⊆ arrs := show ({nm main_c_0} : Finset (DevRef τ sig)) ⊆ arrs by decide
theorem arrs_lay : (opLay (F := F)).bufs ⊆ arrs :=
  show insert (nm main_v1) (insert (nm main_v2) (insert (nm main_v3) (Finset.univ.image fun k => nm ((![main_c, main_c_0] : Fin 2 → Ref sig .tc) k)))) ⊆ arrs by decide
theorem arrs_out : (opOut (F := F)).bufs ⊆ arrs := show ({nm main_v3, nm main_v4} : Finset (DevRef τ sig)) ⊆ arrs by decide

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ ghostOf (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_launch]
  obtain ⟨R, hR⟩ := tcSt_owes (F := F) d
  simp only [main, wp_bind, wp_pure]
  iintro ⟨#Hctx, Hst, ⟨Hb, Hheld, Hts, -⟩, HG⟩
  -- the reshape
  iapply (wp_hlo_within 𝒱 (SparseCore.T d) none Set.univ (op := opIn) (S := arrs) arrs_in (V := W0 m d)) $$ [Hb Hheld]
  · isplitl [Hb] <;> iassumption
  iintro ⟨Hb, Hheld⟩
  rw [wp_ret]; imodintro
  -- the TensorCore call
  ihave Hst := hR.1 $$ Hst
  icases Hst with ⟨HO, HR⟩
  iapply (wp_region m d _)
  isplitl [HR Hts]
  swap
  · isplitl [Hb]; · iexact Hb
    isplitl [Hheld HO]
    · isplitl [Hheld]; · iexact Hheld
      iexact HO
    isplitr; · iapply (SparseCore.Cfg.ctx_levAts κ); iexact Hctx
    iexact HG
  iintro ⟨Hb, Hheld, HO⟩
  ihave Hst := hR.2 $$ [HO HR]
  · isplitl [HO] <;> iassumption
  -- the SparseCore call
  ihave Hh := (Entails.of_eq (held_W2 m d)) $$ Hheld
  icases Hh with ⟨Ha, He, Hx, Hv1, Ho, Hc, Hc0, Hv3, Hv4⟩
  ihave Hd := (deal m d (m (oLoc d))).1 $$ [Hx He Ho]
  · isplitl [Hx]; · iexact Hx
    isplitl [He]; · iexact He
    iexact Ho
  icases Hd with ⟨Hdrop, Htiles⟩
  iapply ((K (F := F)).wp_run (D (F := F)) 𝒱 (EH := EH) (P := P m) κ d 0)
  isplitr; · iexact Hctx
  isplitl [Hst]; · iexact Hst
  isplitl [Htiles]
  · rw [st0_eq]; iexact Htiles
  iintro ⟨Hst, Hdn⟩
  ihave Hdn := (Entails.of_eq (dn0_eq m d)) $$ Hdn
  ihave Hd := (deal m d (scOut (xBuf m d) (m (eLoc d)))).2 $$ [Hdrop Hdn]
  · isplitl [Hdrop] <;> iassumption
  icases Hd with ⟨Hx, He, Ho⟩
  -- the update, and the result in the shape it is returned in
  ihave Hheld := (Entails.of_eq (held_W3 m d).symm) $$ [Ha He Hx Hv1 Ho Hc Hc0 Hv3 Hv4]
  · isplitl [Ha]; · iexact Ha
    isplitl [He]; · iexact He
    isplitl [Hx]; · iexact Hx
    isplitl [Hv1]; · iexact Hv1
    isplitl [Ho]; · iexact Ho
    isplitl [Hc]; · iexact Hc
    isplitl [Hc0]; · iexact Hc0
    isplitl [Hv3]; · iexact Hv3
    iexact Hv4
  iapply (wp_hlo_within 𝒱 (SparseCore.T d) none Set.univ (op := opRow) (S := arrs) arrs_row (V := W3 m d)) $$ [Hb Hheld]
  · isplitl [Hb] <;> iassumption
  iintro ⟨Hb, Hheld⟩
  rw [wp_ret]; imodintro
  iapply (wp_hlo_within 𝒱 (SparseCore.T d) none Set.univ (op := opCol) (S := arrs) arrs_col (V := W4 m d)) $$ [Hb Hheld]
  · isplitl [Hb]; · iexact Hb
    iexact Hheld
  iintro ⟨Hb, Hheld⟩
  rw [wp_ret]; imodintro
  iapply (wp_hlo_within 𝒱 (SparseCore.T d) none Set.univ (op := opLay) (S := arrs) arrs_lay (V := W5 m d)) $$ [Hb Hheld]
  · isplitl [Hb]; · iexact Hb
    iexact Hheld
  iintro ⟨Hb, Hheld⟩
  rw [wp_ret]; imodintro
  iapply (wp_hlo_within 𝒱 (SparseCore.T d) none Set.univ (op := opOut) (S := arrs) arrs_out (V := W6 m d)) $$ [Hb Hheld]
  · isplitl [Hb]; · iexact Hb
    iexact Hheld
  iintro ⟨Hb, Hheld⟩
  rw [wp_ret]; imodintro; imodintro
  ihave Hh := (Entails.of_eq (show held (SparseCore.T d) arrs ((opOut (F := F)).result (W6 m d)) = _ from held_W7 m d)) $$ Hheld
  icases Hh with ⟨Ha, He, -, -, -, -, -, -, Hr⟩
  isplitl [Hst]; · iexact Hst
  isplitr [Hb Hts]
  · isplitl [Ha]; · iexact Ha
    isplitl [He]; · iexact He
    iexact Hr
  isplitl [Hb] <;> iassumption

/-! ## The run, and its frame -/

/-- What the claims read of device `d`'s final state: the result at the sum, the arguments as they were. -/
def fq (d : Dev nD) (s' : Phys nD τ sig (Elt F)) : Prop :=
  s'.mem.mem (rLoc d) = total m d ∧ s'.mem.mem (aLoc d) = m (aLoc d) ∧ s'.mem.mem (eLoc d) = m (eLoc d)

/-- The end state's ownership says what memory holds there. -/
theorem hfin (d : Dev nD) (s' : Phys nD τ sig (Elt F)) : iprop(FIN m d ∗ SI s') ⊢ (⌜fq m d s'⌝ : sProp 𝕄) := by
  iintro ⟨⟨Ha, He, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := eLoc d) (I := Finset.univ) (q := fullShare) (f := m (eLoc d)))) $$ [HSI He]
  · isplitl [HSI] <;> iassumption
  icases H with ⟨%he, HSI, -⟩
  ihave H := (SI_pointsTo_agree (st := s') (ℓ := rLoc d) (I := Finset.univ) (q := fullShare) (f := total m d)) $$ [HSI Hr]
  · isplitl [HSI] <;> iassumption
  icases H with %hr
  ipureintro
  exact ⟨funext fun i => hr i (Finset.mem_univ i), funext fun i => ha i (Finset.mem_univ i), funext fun i => he i (Finset.mem_univ i)⟩

/-- The final states: every device's result at the sum of its arguments, the arguments as they were, every semaphore at zero. -/
def QC : PUnit × MemSt nD τ sig (Elt F) → Prop := fun r =>
  (∀ c : Dev nD, r.2.mem (rLoc c) = total m c ∧ r.2.mem (aLoc c) = m (aLoc c) ∧ r.2.mem (eLoc c) = m (eLoc c)) ∧ r.2.sem = fun _ => 0

/-- The program runs, and ends in such a state. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (ghostOf (F := F)) (FIN m) (u₀ (F := F)) (sep_elim_left.trans (hu₀ m)) (hmain m ρ) (fq m) (hfin m) (QC m) (fun _ h hz => ⟨h, hz⟩)

/-- What the frame claims of that end state: the arguments unchanged, every counter at zero. -/
theorem run_frame [∀ e, Nonempty (Elt F e)] :
    θ_run (Cert.KernelIdeal.defs (F := F)) (Cert.KernelIdeal.threads (F := F)) ⟨m, fun _ => 0, ρ⟩ fun r =>
      (∀ c, r.2.mem (aLoc c) = m (aLoc c) ∧ r.2.mem (eLoc c) = m (eLoc c)) ∧ r.2.sem = fun _ => 0 :=
  (θ_run Cert.KernelIdeal.defs _ _).mono (fun _ h => ⟨fun c => (h.1 c).2, h.2⟩) (run_main m ρ)

end Cert.Proof.PosEnc

end
-- ==== Proof.Ref.lean ====
/-
  What the reference computes, at any float values `F`: it takes the rows `0, 1, …, 8191` of the table, one for each
  position, and adds them to the argument. The row numbers are never negative and never past the table's end, so neither
  the wrap of negative numbers nor the fill of rows out of range ever applies, and the rows taken are the table itself
  (`takenRows_eq`); the reference's result is the sum of the argument and the table (`result_eq`).
-/
module

public import proofs.«01_k».proof.Proof.Gen.ReferenceIdeal
public import Idealize.ShloMosaic.Lib.ReduceAll
public import Idealize.ShloMosaic.Lib.WordCmp

@[expose] public section

noncomputable section

namespace Cert.Proof.Rows

open Cert.ReferenceIdeal Cert.ReferenceIdeal.Gen Idealize.ShloMosaic

variable {F : FTy → Type} [FloatOps F]

/-- The positions `0, …, 8191`, as a matrix of one row. -/
def positions : IVec S1x8192 32 := broadcastInDim S1x8192 ![1] bcast_S8192_S1x8192_1 (iotaInDim S8192 32 0)

/-- The row numbers the table is read at: a position, or 8192 past it where it is negative. -/
def rowNo : IVec S1x8192x1 32 :=
  broadcastInDim S1x8192x1 ![0, 1] bcast_S1x8192_S1x8192x1_0_1
    (select (cmpi .slt positions (broadcastInDim S1x8192 ![] bcast_S_S1x8192 (constantI S_ 32 0#32)))
      (addi positions (broadcastInDim S1x8192 ![] bcast_S_S1x8192 (constantI S_ 32 8192#32))) positions)

/-- Whether a row number lies in the table: at least 0 and at most 8191. -/
def inTable : IVec S1x8192x1 1 :=
  andi (cmpi .sge rowNo (broadcastInDim S1x8192x1 ![] bcast_S_S1x8192x1 (constantI S_ 32 0#32)))
    (cmpi .sle rowNo (broadcastInDim S1x8192x1 ![0, 1, 2] bcast_S1x1x1_S1x8192x1_0_1_2
      (broadcastInDim S1x1x1 ![2] bcast_S1_S1x1x1_2 (constantI S1 32 8191#32))))

/-- The rows taken: those of the table at the row numbers, a fill value where a number lies outside the table. -/
def takenRows (e : S8192x1024.Idx → Elt F .f32) : S1x8192x1024.Idx → Elt F .f32 :=
  select (broadcastInDim S1x8192x1024 ![0, 1] bcast_S1x8192_S1x8192x1024_0_1
      (Host.reduce IntOp.andi inTable (constantI S_ 1 1#1) reducesTo_S1x8192x1_S1x8192_d2 h_S_))
    (Host.gather gather_S8192x1024_S1x8192x1_S1x8192x1024_2_0_n_n_0_2_11024 e rowNo)
    (broadcastInDim S1x8192x1024 ![] bcast_S_S1x8192x1024 (constant S_ .f32 0x7FC00000#32))

/-- A position is its own number. -/
theorem positions_apply (j : S1x8192.Idx) : positions j = BitVec.ofNat 32 (j 1).val := rfl

/-- A position is not negative, so the row read for it is the one of its own number. -/
theorem rowNo_apply (i : S1x8192x1.Idx) : rowNo i = BitVec.ofNat 32 (i 1).val := by
  have h : (i 1).val < 8192 := (i 1).isLt
  show Scalar.select (IntOp.cmpi .slt (BitVec.ofNat 32 (i 1).val) (BitVec.ofNat 32 0)) _ (BitVec.ofNat 32 (i 1).val) = _
  simp (disch := omega) only [hlo_ix]
  simp

/-- Every row number lies in the table. -/
theorem inTable_apply (i : S1x8192x1.Idx) : inTable i = 1#1 := by
  have h : (i 1).val < 8192 := (i 1).isLt
  show IntOp.andi (IntOp.cmpi .sge (rowNo i) (BitVec.ofNat 32 0)) (IntOp.cmpi .sle (rowNo i) (BitVec.ofNat 32 8191)) = _
  rw [rowNo_apply]
  simp (disch := omega) only [hlo_ix]
  simp; omega

/-- The table's element a result's element is read from: its position is the row, its last coordinate the column. -/
def src (y : S1x8192x1024.Idx) : S8192x1024.Idx := fun a => y a.succ

/-- The gather's dimensions: whole rows of the table, by row number. -/
abbrev rowDims : GatherDims S8192x1024 S1x8192x1 S1x8192x1024 := gather_S8192x1024_S1x8192x1_S1x8192x1024_2_0_n_n_0_2_11024

/-- The gather reads, for position `y 1`, that row of the table. -/
theorem gather_apply (e : S8192x1024.Idx → Elt F .f32) (y : S1x8192x1024.Idx) : Host.gather rowDims e rowNo y = e (src y) := by
  have h : (y 1).val < 8192 := (y 1).isLt
  unfold Host.gather
  congr 1
  funext a
  refine Fin.ext ?_
  show GatherDims.start rowDims y rowNo a + GatherDims.batchCoord rowDims y a + GatherDims.offCoord rowDims y a = (y a.succ).val
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 2) ∈ GatherDims.startIndexMap rowDims from List.mem_singleton.mpr rfl), rowNo_apply]
    show min (BitVec.ofNat 32 (y 1).val).toInt.toNat 8191 + 0 + 0 = (y 1).val
    rw [WordCmp.toInt_ofNat_of_lt (by omega)]
    omega
  | ⟨1, h2⟩ =>
    have h1 : (1 : Fin 2) ∉ ([0] : List (Fin 2)) := by decide
    unfold GatherDims.start GatherDims.offCoord
    rw [dif_neg (show (⟨1, h2⟩ : Fin 2) ∉ GatherDims.startIndexMap rowDims from h1),
      dif_pos (show (⟨1, h2⟩ : Fin 2) ∈ GatherDims.sKept rowDims from (GatherDims.mem_sKept _ _).mpr ⟨h1, List.not_mem_nil⟩)]
    show 0 + 0 + (y 2).val = (y 2).val
    omega

/-- The rows taken are the table's own. -/
theorem takenRows_eq (e : S8192x1024.Idx → Elt F .f32) : takenRows e = fun y => e (src y) := by
  funext y
  unfold takenRows select broadcastInDim
  rw [Host.reduce_andi_one _ _ _ _ _ rfl inTable_apply, gather_apply]
  exact if_pos rfl

/-- The reference's result is, element by element, the sum of the argument and of the table. -/
theorem result_eq (a : S1x8192x1024.Idx → Elt F .f32) (e : S8192x1024.Idx → Elt F .f32) :
    addf (φ := .f32) a (takenRows e) = fun y => FloatOps.addf (φ := .f32) (a y) (e (src y)) := by
  rw [takenRows_eq]; rfl

end Cert.Proof.Rows

end
-- ==== Proof.lean ====
module

public import proofs.«01_k».proof.Defs
public import proofs.«01_k».proof.Proof.Gen.ReferenceIdeal.Run
public import proofs.«01_k».proof.Proof.Main
public import proofs.«01_k».proof.Proof.Ref
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two programs have one text, so the same body runs at each label: the kernels' bodies, -/
theorem bodies_eq : Cert.Kernel.defs₀ (F := Bits) = Cert.KernelIdeal.defs₀ (F := Bits) := by
  funext p ℓ a
  match p, ℓ, a with
  | .tc, 0, (_, _) => rfl
  | .tc, 1, _ => rfl
  | .scScalar _, 0, _ => rfl
  | .scScalar _, 1, _ => rfl
  | .scVector _ _, 0, _ => rfl
  | .scVector _ _, 1, _ => rfl

/-- and the program's own. -/
theorem tables_eq : Cert.Kernel.defs (F := Bits) = Cert.KernelIdeal.defs (F := Bits) :=
  congrArg (fun D => Cert.KernelIdeal.sc.defs (Pipeline.defs Cert.KernelIdeal.pcfgs D)) bodies_eq

/-- The kernel terminates without fault, its arguments unchanged and its counters at zero. -/
theorem frame_kernel : Cert.quiescent_Kernel := fun m ρ _ => by
  rw [tables_eq]
  exact PosEnc.run_frame (F := Bits) m ρ

/-- So does the ideal kernel. -/
theorem frame_ideal : Cert.quiescent_KernelIdeal := fun m ρ _ =>
  PosEnc.run_frame (F := Ideal) m ρ

/-- So does the ideal reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same result, the sum of the argument and of the table's rows. -/
theorem same_result : Cert.algebraic_KernelIdeal_ReferenceIdeal := by
  intro m ρ m' ρ' _ hagree
  refine ⟨PosEnc.total m, (θ_run Cert.KernelIdeal.defs _ _).mono (fun _ h => h.1) (PosEnc.run_main (F := Ideal) m ρ),
    (θ_run Cert.ReferenceIdeal.defs _ _).mono (fun r h c => ⟨(h c).1.trans ?_, (h c).2⟩)
      (Cert.ReferenceIdeal.Value.run (F := Ideal) m' ρ')⟩
  rw [(hagree c).1, (hagree c).2]
  exact Rows.result_eq _ _

theorem claim : Cert.Claim := ⟨Cert.Kernel.Gen.facts, Cert.KernelIdeal.Gen.facts, Cert.ReferenceIdeal.Gen.facts,
  frame_kernel, frame_ideal, frame_reference, trivial, same_result⟩

end Cert.Proof

end
